-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_score_bias [hPre_zero_score_bias : Cert.Pre_zero_score_bias.Facts] (m : (ℓ : Loc Cert.KernelIdeal.nD Cert.KernelIdeal.τ Cert.KernelIdeal.sig) → Buf (Elt Ideal) ℓ) : Prop :=
  ∀ c : Dev Cert.KernelIdeal.nD,
    (Cert.Pre_zero_score_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_score_bias [hPre_zero_score_bias : Cert.Pre_zero_score_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_score_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_zero_score_bias [hKernelIdeal : Cert.KernelIdeal.Facts] [hPre_zero_score_bias : Cert.Pre_zero_score_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_score_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_zero_score_bias [hReferenceIdeal : Cert.ReferenceIdeal.Facts] [hPre_zero_score_bias : Cert.Pre_zero_score_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_score_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_k" .f32 0x3CA3D70A#32 ((1 / 50 : ℝ) : EReal)

def algebraic_KernelIdeal_ReferenceIdeal_pre_zero_score_bias [hKernelIdeal : Cert.KernelIdeal.Facts] [hReferenceIdeal : Cert.ReferenceIdeal.Facts] [hPre_zero_score_bias : Cert.Pre_zero_score_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_score_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_zero_score_bias : Cert.Pre_zero_score_bias.Facts),
    quiescent_Kernel (hKernel := hKernel)
    ∧ quiescent_KernelIdeal (hKernelIdeal := hKernelIdeal)
    ∧ quiescent_KernelIdeal_pre_zero_score_bias (hKernelIdeal := hKernelIdeal) (hPre_zero_score_bias := hPre_zero_score_bias)
    ∧ quiescent_ReferenceIdeal (hReferenceIdeal := hReferenceIdeal)
    ∧ quiescent_ReferenceIdeal_pre_zero_score_bias (hReferenceIdeal := hReferenceIdeal) (hPre_zero_score_bias := hPre_zero_score_bias)
    ∧ preserves_Kernel_KernelIdeal
    ∧ algebraic_KernelIdeal_ReferenceIdeal_pre_zero_score_bias (hKernelIdeal := hKernelIdeal) (hReferenceIdeal := hReferenceIdeal) (hPre_zero_score_bias := hPre_zero_score_bias)
-- ==== Pre_zero_score_bias.lean ====
abbrev S1024x200x128 : Shape := ⟨3, ![1024, 200, 128]⟩
abbrev S1024x200 : Shape := ⟨2, ![1024, 200]⟩
abbrev S10000x128 : Shape := ⟨2, ![10000, 128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S512x128 : Shape := ⟨2, ![512, 128]⟩
abbrev S128 : Shape := ⟨1, ![128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S1024x200x128 .f32) (main_arg1 : IVec S1024x200 32) (main_arg2 : FVec F S10000x128 .f32) (main_arg3 : FVec F S256x512 .f32) (main_arg4 : FVec F S512 .f32) (main_arg5 : FVec F S512x1 .f32) (main_arg6 : FVec F S1 .f32) (main_arg7 : FVec F S256x512 .f32) (main_arg8 : FVec F S512 .f32) (main_arg9 : FVec F S512x128 .f32) (main_arg10 : FVec F S128 .f32) : IVec S_ 1 :=
  let main_cst : FVec F S_ .f32 := constant S_ .f32 0x00000000#32
  let main_v0 : FVec F S1 .f32 := broadcastInDim S1 ![] bcast_S_S1 main_cst
  let main_v1 : IVec S1 1 := cmpf .oeq main_arg6 main_v0
  let main_c : IVec S_ 1 := constantI S_ 1 1#1
  let main_v2 : IVec S_ 1 := (fun x v => Host.reduce IntOp.andi x v reducesTo_S1_S_d0 h_S_) main_v1 main_c
  main_v2
-- ==== Kernel.lean ====
abbrev S1024x200x128 : Shape := ⟨3, ![1024, 200, 128]⟩
abbrev S1024x200 : Shape := ⟨2, ![1024, 200]⟩
abbrev S10000x128 : Shape := ⟨2, ![10000, 128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S512x128 : Shape := ⟨2, ![512, 128]⟩
abbrev S128 : Shape := ⟨1, ![128]⟩
abbrev S200x128 : Shape := ⟨2, ![200, 128]⟩
abbrev S1x512 : Shape := ⟨2, ![1, 512]⟩
abbrev S1x128 : Shape := ⟨2, ![1, 128]⟩
abbrev S200x512 : Shape := ⟨2, ![200, 512]⟩
abbrev S1024x128 : Shape := ⟨2, ![1024, 128]⟩
abbrev S128x512 : Shape := ⟨2, ![128, 512]⟩
abbrev S128x200x128 : Shape := ⟨3, ![128, 200, 128]⟩
abbrev S128x200 : Shape := ⟨2, ![128, 200]⟩
abbrev S128x128 : Shape := ⟨2, ![128, 128]⟩
abbrev S1x200x512 : Shape := ⟨3, ![1, 200, 512]⟩
abbrev S16x200x128 : Shape := ⟨3, ![16, 200, 128]⟩
abbrev S16x200x512 : Shape := ⟨3, ![16, 200, 512]⟩
abbrev S3200x512 : Shape := ⟨2, ![3200, 512]⟩
abbrev S3200x1 : Shape := ⟨2, ![3200, 1]⟩
abbrev S16x200 : Shape := ⟨2, ![16, 200]⟩
abbrev S16x200x1 : Shape := ⟨3, ![16, 200, 1]⟩
abbrev S16x1x200 : Shape := ⟨3, ![16, 1, 200]⟩
abbrev S16x200x200 : Shape := ⟨3, ![16, 200, 200]⟩
abbrev S16x512 : Shape := ⟨2, ![16, 512]⟩
abbrev S16x128 : Shape := ⟨2, ![16, 128]⟩

abbrev nBuf : Space → Nat
  | .hbm => 18
  | .vmem => 20
  | .smem => 0
  | _ => 0

abbrev bufTy : (tb : Table) → Fin (tcTables nBuf tb) → BufTy
  | .hbm, ⟨0, _⟩ => ⟨S1024x200x128, .f32⟩
  | .hbm, ⟨1, _⟩ => ⟨S1024x200, .i32⟩
  | .hbm, ⟨2, _⟩ => ⟨S10000x128, .f32⟩
  | .hbm, ⟨3, _⟩ => ⟨S256x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S256x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200x128, .f32⟩
  | .hbm, ⟨12, _⟩ => ⟨S1x512, .f32⟩
  | .hbm, ⟨13, _⟩ => ⟨S1x512, .f32⟩
  | .hbm, ⟨14, _⟩ => ⟨S1x128, .f32⟩
  | .hbm, ⟨15, _⟩ => ⟨S200x512, .f32⟩
  | .hbm, ⟨16, _⟩ => ⟨S200x512, .f32⟩
  | .hbm, ⟨17, _⟩ => ⟨S1024x128, .f32⟩
  | .local _ .vmem, ⟨0, _⟩ => ⟨S200x128, .f32⟩
  | .local _ .vmem, ⟨1, _⟩ => ⟨S256x512, .f32⟩
  | .local _ .vmem, ⟨2, _⟩ => ⟨S256x512, .f32⟩
  | .local _ .vmem, ⟨3, _⟩ => ⟨S1x512, .f32⟩
  | .local _ .vmem, ⟨4, _⟩ => ⟨S200x512, .f32⟩
  | .local _ .vmem, ⟨5, _⟩ => ⟨S200x512, .f32⟩
  | .local _ .vmem, ⟨6, _⟩ => ⟨S128x200x128, .f32⟩
  | .local _ .vmem, ⟨7, _⟩ => ⟨S128x200x128, .f32⟩
  | .local _ .vmem, ⟨8, _⟩ => ⟨S128x200, .i32⟩
  | .local _ .vmem, ⟨9, _⟩ => ⟨S128x200, .i32⟩
  | .local _ .vmem, ⟨10, _⟩ => ⟨S200x512, .f32⟩
  | .local _ .vmem, ⟨11, _⟩ => ⟨S200x512, .f32⟩
  | .local _ .vmem, ⟨12, _⟩ => ⟨S256x512, .f32⟩
  | .local _ .vmem, ⟨13, _⟩ => ⟨S1x512, .f32⟩
  | .local _ .vmem, ⟨14, _⟩ => ⟨S512x1, .f32⟩
  | .local _ .vmem, ⟨15, _⟩ => ⟨S256x512, .f32⟩
  | .local _ .vmem, ⟨16, _⟩ => ⟨S512x128, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | _, _ => ⟨S1024x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4_0 : Ref sig .tc := ⟨.hbm, 15, rfl⟩
abbrev main_call0_v4_1 : Ref sig .tc := ⟨.hbm, 16, rfl⟩
abbrev main_v0 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19

abbrev nD : Nat := 1
abbrev τ : Topo := Topo.v7x

variable {F : FTy → Type} [FloatOps F]

abbrev grid0 : Pipeline.Grid := .none

abbrev stage0_0 : Fin 1 → Memref sig .tc .vmem S200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S200x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S200x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S200x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S200x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== KernelIdeal.lean ====
variable {F : FTy → Type} [FloatOps F] [Named F]
def κ : String → Option EReal := fun
  | "inv_k" => some ((1 / 50 : ℝ) : EReal)
  | _ => none
-- ==== ReferenceIdeal.lean ====
abbrev S1024x200x128 : Shape := ⟨3, ![1024, 200, 128]⟩
abbrev S1024x200 : Shape := ⟨2, ![1024, 200]⟩
abbrev S10000x128 : Shape := ⟨2, ![10000, 128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S512x128 : Shape := ⟨2, ![512, 128]⟩
abbrev S128 : Shape := ⟨1, ![128]⟩
abbrev S200 : Shape := ⟨1, ![200]⟩
abbrev S_ : Shape := ⟨0, ![]⟩
abbrev S200x1 : Shape := ⟨2, ![200, 1]⟩
abbrev S1x1 : Shape := ⟨2, ![1, 1]⟩
abbrev S200x128 : Shape := ⟨2, ![200, 128]⟩
abbrev S1x200x128 : Shape := ⟨3, ![1, 200, 128]⟩
abbrev S1024x200x256 : Shape := ⟨3, ![1024, 200, 256]⟩
abbrev S1024x200x512 : Shape := ⟨3, ![1024, 200, 512]⟩
abbrev S1x1x512 : Shape := ⟨3, ![1, 1, 512]⟩
abbrev S1024x200x1 : Shape := ⟨3, ![1024, 200, 1]⟩
abbrev S1x1x1 : Shape := ⟨3, ![1, 1, 1]⟩
abbrev S1024x50 : Shape := ⟨2, ![1024, 50]⟩
abbrev S1024x50x1 : Shape := ⟨3, ![1024, 50, 1]⟩
abbrev S1024x50x256 : Shape := ⟨3, ![1024, 50, 256]⟩
abbrev S1024x50x512 : Shape := ⟨3, ![1024, 50, 512]⟩
abbrev S1024x50x128 : Shape := ⟨3, ![1024, 50, 128]⟩
abbrev S1x1x128 : Shape := ⟨3, ![1, 1, 128]⟩
abbrev S1024x128 : Shape := ⟨2, ![1024, 128]⟩

abbrev nBuf : Space → Nat
  | .hbm => 106
  | .vmem => 0
  | .smem => 0
  | _ => 0

abbrev bufTy : (tb : Table) → Fin (tcTables nBuf tb) → BufTy
  | .hbm, ⟨0, _⟩ => ⟨S1024x200x128, .f32⟩
  | .hbm, ⟨1, _⟩ => ⟨S1024x200, .i32⟩
  | .hbm, ⟨2, _⟩ => ⟨S10000x128, .f32⟩
  | .hbm, ⟨3, _⟩ => ⟨S256x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S256x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S200, .i32⟩
  | .hbm, ⟨16, _⟩ => ⟨S200, .i32⟩
  | .hbm, ⟨17, _⟩ => ⟨S_, .i32⟩
  | .hbm, ⟨18, _⟩ => ⟨S200, .i32⟩
  | .hbm, ⟨19, _⟩ => ⟨S200, .i32⟩
  | .hbm, ⟨20, _⟩ => ⟨S_, .i32⟩
  | .hbm, ⟨21, _⟩ => ⟨S200, .i32⟩
  | .hbm, ⟨22, _⟩ => ⟨S200, .i1⟩
  | .hbm, ⟨23, _⟩ => ⟨S_, .i32⟩
  | .hbm, ⟨24, _⟩ => ⟨S200, .i32⟩
  | .hbm, ⟨25, _⟩ => ⟨S200, .i32⟩
  | .hbm, ⟨26, _⟩ => ⟨S200, .i32⟩
  | .hbm, ⟨27, _⟩ => ⟨S200x1, .i32⟩
  | .hbm, ⟨28, _⟩ => ⟨S1, .i32⟩
  | .hbm, ⟨29, _⟩ => ⟨S_, .i32⟩
  | .hbm, ⟨30, _⟩ => ⟨S200x1, .i32⟩
  | .hbm, ⟨31, _⟩ => ⟨S200x1, .i1⟩
  | .hbm, ⟨32, _⟩ => ⟨S1x1, .i32⟩
  | .hbm, ⟨33, _⟩ => ⟨S200x1, .i32⟩
  | .hbm, ⟨34, _⟩ => ⟨S200x1, .i1⟩
  | .hbm, ⟨35, _⟩ => ⟨S200x1, .i1⟩
  | .hbm, ⟨36, _⟩ => ⟨S_, .i1⟩
  | .hbm, ⟨37, _⟩ => ⟨S200, .i1⟩
  | .hbm, ⟨38, _⟩ => ⟨S200x128, .f32⟩
  | .hbm, ⟨39, _⟩ => ⟨S200x128, .i1⟩
  | .hbm, ⟨40, _⟩ => ⟨S_, .f32⟩
  | .hbm, ⟨41, _⟩ => ⟨S200x128, .f32⟩
  | .hbm, ⟨42, _⟩ => ⟨S200x128, .f32⟩
  | .hbm, ⟨43, _⟩ => ⟨S1x200x128, .f32⟩
  | .hbm, ⟨44, _⟩ => ⟨S1024x200x128, .f32⟩
  | .hbm, ⟨45, _⟩ => ⟨S1024x200x256, .f32⟩
  | .hbm, ⟨46, _⟩ => ⟨S1024x200x512, .f32⟩
  | .hbm, ⟨47, _⟩ => ⟨S1x1x512, .f32⟩
  | .hbm, ⟨48, _⟩ => ⟨S1024x200x512, .f32⟩
  | .hbm, ⟨49, _⟩ => ⟨S1024x200x512, .f32⟩
  | .hbm, ⟨50, _⟩ => ⟨S_, .f32⟩
  | .hbm, ⟨51, _⟩ => ⟨S1024x200x512, .f32⟩
  | .hbm, ⟨52, _⟩ => ⟨S1024x200x512, .f32⟩
  | .hbm, ⟨53, _⟩ => ⟨S1024x200x1, .f32⟩
  | .hbm, ⟨54, _⟩ => ⟨S1x1x1, .f32⟩
  | .hbm, ⟨55, _⟩ => ⟨S1024x200x1, .f32⟩
  | .hbm, ⟨56, _⟩ => ⟨S1024x200x1, .f32⟩
  | .hbm, ⟨57, _⟩ => ⟨S1024x200, .f32⟩
  | .hbm, ⟨58, _⟩ => ⟨S_, .i32⟩
  | .hbm, ⟨59, _⟩ => ⟨S1024x200, .i32⟩
  | .hbm, ⟨60, _⟩ => ⟨S1024x200, .i1⟩
  | .hbm, ⟨61, _⟩ => ⟨S_, .f32⟩
  | .hbm, ⟨62, _⟩ => ⟨S1024x200, .f32⟩
  | .hbm, ⟨63, _⟩ => ⟨S1024x200, .f32⟩
  | .hbm, ⟨64, _⟩ => ⟨S1024x50, .f32⟩
  | .hbm, ⟨65, _⟩ => ⟨S1024x50, .i32⟩
  | .hbm, ⟨66, _⟩ => ⟨S1024x50, .i32⟩
  | .hbm, ⟨67, _⟩ => ⟨S1024x50x1, .i32⟩
  | .hbm, ⟨68, _⟩ => ⟨S_, .i32⟩
  | .hbm, ⟨69, _⟩ => ⟨S1024x50x1, .i32⟩
  | .hbm, ⟨70, _⟩ => ⟨S1024x50x1, .i1⟩
  | .hbm, ⟨71, _⟩ => ⟨S_, .i32⟩
  | .hbm, ⟨72, _⟩ => ⟨S1024x50x1, .i32⟩
  | .hbm, ⟨73, _⟩ => ⟨S1024x50x1, .i32⟩
  | .hbm, ⟨74, _⟩ => ⟨S1024x50x1, .i32⟩
  | .hbm, ⟨75, _⟩ => ⟨S1, .i32⟩
  | .hbm, ⟨76, _⟩ => ⟨S_, .i32⟩
  | .hbm, ⟨77, _⟩ => ⟨S1024x50x1, .i32⟩
  | .hbm, ⟨78, _⟩ => ⟨S1024x50x1, .i1⟩
  | .hbm, ⟨79, _⟩ => ⟨S1x1x1, .i32⟩
  | .hbm, ⟨80, _⟩ => ⟨S1024x50x1, .i32⟩
  | .hbm, ⟨81, _⟩ => ⟨S1024x50x1, .i1⟩
  | .hbm, ⟨82, _⟩ => ⟨S1024x50x1, .i1⟩
  | .hbm, ⟨83, _⟩ => ⟨S_, .i1⟩
  | .hbm, ⟨84, _⟩ => ⟨S1024x50, .i1⟩
  | .hbm, ⟨85, _⟩ => ⟨S1024x50x256, .f32⟩
  | .hbm, ⟨86, _⟩ => ⟨S1024x50x256, .i1⟩
  | .hbm, ⟨87, _⟩ => ⟨S_, .f32⟩
  | .hbm, ⟨88, _⟩ => ⟨S1024x50x256, .f32⟩
  | .hbm, ⟨89, _⟩ => ⟨S1024x50x256, .f32⟩
  | .hbm, ⟨90, _⟩ => ⟨S1024x50x512, .f32⟩
  | .hbm, ⟨91, _⟩ => ⟨S1x1x512, .f32⟩
  | .hbm, ⟨92, _⟩ => ⟨S1024x50x512, .f32⟩
  | .hbm, ⟨93, _⟩ => ⟨S1024x50x512, .f32⟩
  | .hbm, ⟨94, _⟩ => ⟨S_, .f32⟩
  | .hbm, ⟨95, _⟩ => ⟨S1024x50x512, .f32⟩
  | .hbm, ⟨96, _⟩ => ⟨S1024x50x512, .f32⟩
  | .hbm, ⟨97, _⟩ => ⟨S1024x50x128, .f32⟩
  | .hbm, ⟨98, _⟩ => ⟨S1x1x128, .f32⟩
  | .hbm, ⟨99, _⟩ => ⟨S1024x50x128, .f32⟩
  | .hbm, ⟨100, _⟩ => ⟨S1024x50x128, .f32⟩
  | .hbm, ⟨101, _⟩ => ⟨S_, .f32⟩
  | .hbm, ⟨102, _⟩ => ⟨S1024x128, .f32⟩
  | .hbm, ⟨103, _⟩ => ⟨S_, .f32⟩
  | .hbm, ⟨104, _⟩ => ⟨S1024x128, .f32⟩
  | .hbm, ⟨105, _⟩ => ⟨S1024x128, .f32⟩
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_c_1 : Ref sig .tc := ⟨.hbm, 58, rfl⟩
abbrev main_v17 : Ref sig .tc := ⟨.hbm, 59, rfl⟩
abbrev main_v18 : Ref sig .tc := ⟨.hbm, 60, rfl⟩
abbrev main_cst_2 : Ref sig .tc := ⟨.hbm, 61, rfl⟩
abbrev main_call2_v0 : Ref sig .tc := ⟨.hbm, 62, rfl⟩
abbrev main_v19 : Ref sig .tc := ⟨.hbm, 63, rfl⟩
abbrev main_values : Ref sig .tc := ⟨.hbm, 64, rfl⟩
abbrev main_indices : Ref sig .tc := ⟨.hbm, 65, rfl⟩
abbrev main_v20 : Ref sig .tc := ⟨.hbm, 66, rfl⟩
abbrev main_v21 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_c_1 : Ref sig .tc := ⟨.hbm, 75, rfl⟩
abbrev main_call4_c_2 : Ref sig .tc := ⟨.hbm, 76, rfl⟩
abbrev main_call4_v5 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_c_3 : Ref sig .tc := ⟨.hbm, 83, rfl⟩
abbrev main_call4_v11 : Ref sig .tc := ⟨.hbm, 84, rfl⟩
abbrev main_call4_v12 : Ref sig .tc := ⟨.hbm, 85, rfl⟩
abbrev main_call4_v13 : Ref sig .tc := ⟨.hbm, 86, rfl⟩
abbrev main_call4_cst : Ref sig .tc := ⟨.hbm, 87, rfl⟩
abbrev main_call4_v14 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_cst_3 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_cst_4 : Ref sig .tc := ⟨.hbm, 101, rfl⟩
abbrev main_v33 : Ref sig .tc := ⟨.hbm, 102, rfl⟩
abbrev main_cst_5 : Ref sig .tc := ⟨.hbm, 103, rfl⟩
abbrev main_v34 : Ref sig .tc := ⟨.hbm, 104, rfl⟩
abbrev main_v35 : Ref sig .tc := ⟨.hbm, 105, rfl⟩

abbrev nD : Nat := 1
abbrev τ : Topo := Topo.v7x

variable {F : FTy → Type} [FloatOps F]
-- ==== Proof.Frames.lean ====
/-
  The claims that are not about values: every program terminates with its arguments unchanged and every semaphore at
  zero, and the one named constant of the idealized kernel is the number it is named after.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

set_option maxRecDepth 16384

noncomputable section

namespace Cert.Frames

open Idealize.ShloMosaic Idealize.ShloMosaic.TcCoe Idealize.SL.Sem

/-- The side conditions of the precondition's operations hold. -/
theorem preFacts : Cert.Pre_zero_score_bias.Facts where
  bcast_S_S1 := by decide
  reducesTo_S1_S_d0 := by decide
  h_S_ := by decide

/-- The kernel terminates, its arguments end unchanged, and every semaphore ends at zero. -/
theorem kernel : Cert.quiescent_Kernel := fun m ρ _ => Cert.Kernel.Gen.frame m ρ

/-- The idealized kernel terminates, its arguments end unchanged, and every semaphore ends at zero. -/
theorem kernelIdeal : Cert.quiescent_KernelIdeal := fun m ρ _ => Cert.KernelIdeal.Gen.frame m ρ

/-- The same of the idealized kernel under the precondition of the value claim, which is not used. -/
theorem kernelIdeal_pre : @Cert.quiescent_KernelIdeal_pre_zero_score_bias _ preFacts :=
  fun m ρ _ => Cert.KernelIdeal.Gen.frame m ρ

/-- The idealized reference terminates, its arguments end unchanged, and every semaphore ends at zero: it has none. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the idealized reference under the precondition of the value claim, which is not used. -/
theorem referenceIdeal_pre : @Cert.quiescent_ReferenceIdeal_pre_zero_score_bias _ preFacts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant of the idealized kernel is one fiftieth. -/
theorem preserves : Cert.preserves_Kernel_KernelIdeal :=
  IdealRules.named_const.statement Cert.KernelIdeal.κ "inv_k" .f32 0x3CA3D70A#32 ((1 / 50 : ℝ) : EReal) rfl

end Cert.Frames

end
-- ==== Proof.Select.lean ====
/-
  Which positions a "greatest `m` of `n`" selection keeps, two ways.

  A list of `n` keys is sorted stably, greater first. The first `m` places of the sorted order hold exactly the
  positions with fewer than `m` positions ahead of them, where `q` is ahead of `p` when its key is greater, or equal
  with `q` the earlier position. So a sum over the first `m` places is a sum over all positions that keeps those of
  small rank.
-/
module

public import Idealize.ShloMosaic.Lib.SortFacts
public import Mathlib.Data.Fintype.BigOperators
public import Mathlib.Order.Interval.Finset.Fin

@[expose] public section

namespace Cert.Select

open Idealize.ShloMosaic

variable {α : Type} [LinearOrder α] {n : Nat}

/-- Position `q` is ahead of position `p`: its key is greater, or the keys are equal and `q` is earlier. -/
def Ahead (f : Fin n → α) (q p : Fin n) : Prop := f p < f q ∨ (f q = f p ∧ q < p)

instance (f : Fin n → α) (q p : Fin n) : Decidable (Ahead f q p) := by unfold Ahead; infer_instance

/-- How many positions are ahead of `p`. -/
def rank (f : Fin n → α) (p : Fin n) : Nat := (Finset.univ.filter fun q => Ahead f q p).card

/-- Being ahead is transitive. -/
theorem Ahead.trans {f : Fin n → α} {a b c : Fin n} (h₁ : Ahead f a b) (h₂ : Ahead f b c) : Ahead f a c := by
  rcases h₁ with h₁ | ⟨e₁, h₁⟩ <;> rcases h₂ with h₂ | ⟨e₂, h₂⟩
  · exact .inl (h₂.trans h₁)
  · exact .inl (e₂ ▸ h₁)
  · exact .inl (e₁ ▸ h₂)
  · exact .inr ⟨e₁.trans e₂, h₁.trans h₂⟩

/-- No position is ahead of one that is ahead of it. -/
theorem Ahead.asymm {f : Fin n → α} {a b : Fin n} (h₁ : Ahead f a b) : ¬ Ahead f b a := fun h₂ => by
  rcases h₁.trans h₂ with h | ⟨-, h⟩
  · exact lt_irrefl _ h
  · exact lt_irrefl _ h

/-- Inserting an earlier position into a list ordered by `Ahead` keeps it ordered. -/
theorem pairwise_insert (f : Fin n → α) (R : Fin n → Fin n → Bool) (hR : ∀ a b, R a b = true ↔ f b < f a) (a : Fin n) :
    ∀ l : List (Fin n), (∀ b ∈ l, a < b) → l.Pairwise (Ahead f) → (insertBefore R a l).Pairwise (Ahead f)
  | [], _, _ => by simp [insertBefore]
  | b :: l, ha, hl => by
    rw [List.pairwise_cons] at hl
    unfold insertBefore
    split
    · rename_i h
      refine List.pairwise_cons.2 ⟨fun x hx => ?_,
        pairwise_insert f R hR a l (fun x hx => ha x (List.mem_cons_of_mem _ hx)) hl.2⟩
      rcases List.mem_cons.1 ((perm_insertBefore R a l).mem_iff.1 hx) with rfl | hx
      · exact .inl ((hR _ _).1 h)
      · exact hl.1 x hx
    · rename_i h
      have hab : Ahead f a b := by
        rcases lt_trichotomy (f a) (f b) with h' | h' | h'
        · exact absurd ((hR _ _).2 h') h
        · exact .inr ⟨h', ha b (List.mem_cons_self ..)⟩
        · exact .inl h'
      refine List.pairwise_cons.2 ⟨fun x hx => ?_, List.pairwise_cons.2 hl⟩
      rcases List.mem_cons.1 hx with rfl | hx
      · exact hab
      · exact hab.trans (hl.1 x hx)

/-- The stable sort of a list of increasing positions is ordered by `Ahead`. -/
theorem pairwise_sort (f : Fin n → α) (R : Fin n → Fin n → Bool) (hR : ∀ a b, R a b = true ↔ f b < f a) :
    ∀ l : List (Fin n), l.Pairwise (· < ·) → (stableSort R l).Pairwise (Ahead f)
  | [], _ => by simp [stableSort]
  | a :: l, h => by
    rw [List.pairwise_cons] at h
    unfold stableSort
    exact pairwise_insert f R hR a _ (fun b hb => h.1 b ((perm_stableSort R l).mem_iff.1 hb)) (pairwise_sort f R hR l h.2)

/-- Of two places of the sorted order, the earlier one holds the position that is ahead. -/
theorem ahead_sortedFrom (f : Fin n → α) (R : Fin n → Fin n → Bool) (hR : ∀ a b, R a b = true ↔ f b < f a)
    {i j : Fin n} (hij : i < j) : Ahead f (sortedFrom R i) (sortedFrom R j) :=
  List.pairwise_iff_get.1 (pairwise_sort f R hR _ (List.pairwise_lt_finRange n)) _ _ hij

/-- The position at place `i` of the sorted order has exactly `i` positions ahead of it. -/
theorem rank_sortedFrom (f : Fin n → α) (R : Fin n → Fin n → Bool) (hR : ∀ a b, R a b = true ↔ f b < f a) (i : Fin n) :
    rank f (sortedFrom R i) = i := by
  have hset : (Finset.univ.filter fun q => Ahead f q (sortedFrom R i)) = (Finset.Iio i).image (sortedFrom R) := by
    ext q
    obtain ⟨k, rfl⟩ := sortedFrom_surjective R q
    simp only [Finset.mem_filter, Finset.mem_univ, true_and, Finset.mem_image, Finset.mem_Iio]
    refine ⟨fun h => ⟨k, ?_, rfl⟩, fun ⟨k', hk', e⟩ => e ▸ ahead_sortedFrom f R hR hk'⟩
    rcases lt_trichotomy k i with h' | h' | h'
    · exact h'
    · subst h'; exact absurd h h.asymm
    · exact absurd h (ahead_sortedFrom f R hR h').asymm
  rw [rank, hset, Finset.card_image_of_injective _ (sortedFrom_injective R), Fin.card_Iio]

/-- A sum over the first `m` places of the sorted order is the sum over the positions of rank below `m`. -/
theorem sum_sortedFrom {M : Type} [AddCommMonoid M] (f : Fin n → α) (R : Fin n → Fin n → Bool)
    (hR : ∀ a b, R a b = true ↔ f b < f a) {m : Nat} (hm : m ≤ n) (g : Fin n → M) :
    ∑ k : Fin m, g (sortedFrom R (k.castLE hm)) = ∑ p : Fin n, if rank f p < m then g p else 0 := by
  have e : ∑ p : Fin n, (if rank f p < m then g p else 0)
      = ∑ k : Fin n, (if (k : Nat) < m then g (sortedFrom R k) else 0) := by
    rw [← (Equiv.ofBijective _ ⟨sortedFrom_injective R, sortedFrom_surjective R⟩).sum_comp]
    exact Finset.sum_congr rfl fun k _ => by
      show (if rank f (sortedFrom R k) < m then _ else _) = _
      rw [rank_sortedFrom f R hR k]; rfl
  have hmap : (Finset.univ : Finset (Fin m)).map (Fin.castLEEmb hm) = Finset.univ.filter fun k : Fin n => (k : Nat) < m := by
    ext k
    simp only [Finset.mem_map, Finset.mem_univ, true_and, Finset.mem_filter]
    exact ⟨fun ⟨j, h⟩ => h ▸ j.isLt, fun h => ⟨⟨k, h⟩, rfl⟩⟩
  rw [e, ← Finset.sum_filter, ← hmap, Finset.sum_map]
  rfl

end Cert.Select
-- ==== Proof.Spec.lean ====
/-
  The mathematics both programs are shown to compute, over the extended reals.

  A row is one sequence of 200 positions. Each position has a feature vector `x` of length 128 and a position vector `q`
  of length 128; the weight matrices have 256 rows, the first 128 for `x` and the last 128 for `q`.
-/
module

public import proofs.«01_k».proof.Proof.Select
public import Idealize.ShloMosaic.Lib.Pointwise

@[expose] public section

noncomputable section

namespace Cert.Spec

open Idealize.ShloMosaic Cert.Select

/-- Arrays of extended reals of one, two and three axes. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The value that stands for the score of a masked position: the number the float literal −1e9 denotes. -/
def maskScore : EReal := Ideal.ofBits .f32 0xCE6E6B28#32

/-- One hidden unit of a position: the rectified affine image of its features and its position vector. -/
def hidden (x q : Fin 128 → EReal) (W : A2 256 512) (b : A1 512) (h : Fin 512) : EReal :=
  max ((∑ d : Fin 128, x d * W (ix2 ⟨d, by omega⟩ h)) + ((∑ d : Fin 128, q d * W (ix2 ⟨128 + d, by omega⟩ h)) + b (ix1 h))) 0

/-- The importance score of a position, before masking. -/
def score (x q : Fin 128 → EReal) (W : A2 256 512) (b : A1 512) (w : A2 512 1) : EReal :=
  ∑ h : Fin 512, hidden x q W b h * w (ix2 h 0)

/-- The keys the selection of a row ranks: the scores, with the mask's value at masked positions. -/
def keys (x q : Fin 200 → Fin 128 → EReal) (mask : Fin 200 → BitVec 32) (W : A2 256 512) (b : A1 512) (w : A2 512 1)
    (l : Fin 200) : EReal :=
  if mask l = 0#32 then maskScore else score (x l) (q l) W b w

/-- The result for one row: the hidden units of the second layer summed over the fifty positions of greatest key,
    divided by fifty, under the last linear layer. -/
def out (x q : Fin 200 → Fin 128 → EReal) (mask : Fin 200 → BitVec 32) (W1 : A2 256 512) (b1 : A1 512) (w : A2 512 1)
    (We : A2 256 512) (be : A1 512) (W2 : A2 512 128) (b2 : A1 128) (o : Fin 128) : EReal :=
  (∑ h : Fin 512, ((∑ l : Fin 200, if rank (keys x q mask W1 b1 w) l < 50 then hidden (x l) (q l) We be h else 0)
      * ((1 / 50 : ℝ) : EReal)) * W2 (ix2 h o)) + b2 (ix1 o)

/-- The whole result: every row's value, from the argument arrays. A position's vector is its row of the table. -/
def result (seq : A3 1024 200 128) (mask : (⟨2, ![1024, 200]⟩ : Shape).Idx → BitVec 32) (pos : A2 10000 128)
    (W1 : A2 256 512) (b1 : A1 512) (w : A2 512 1) (We : A2 256 512) (be : A1 512) (W2 : A2 512 128) (b2 : A1 128) :
    A2 1024 128 :=
  fun i => out (fun l d => seq (ix3 (i 0) l d)) (fun l d => pos (ix2 ⟨l, by omega⟩ d)) (fun l => mask (ix2 (i 0) l))
    W1 b1 w We be W2 b2 (i 1)

/-- Hidden units are non-negative. -/
theorem hidden_nonneg (x q : Fin 128 → EReal) (W : A2 256 512) (b : A1 512) (h : Fin 512) : 0 ≤ hidden x q W b h :=
  le_max_right _ _

end Cert.Spec

end
-- ==== Proof.Algebra.lean ====
/-
  The identities of sums of extended reals that the certificate rests on.

  Multiplication does not distribute over every sum of extended reals. It does over a sum of non-negative terms, and a
  finite positive factor distributes over any sum; these two cases are all that pooling before the last linear layer
  needs.
-/
module

public import Mathlib.Data.EReal.Operations
public import Mathlib.Data.EReal.Inv
public import Mathlib.Algebra.BigOperators.Fin
public import Mathlib.Data.Fintype.BigOperators

@[expose] public section

namespace Cert.Algebra

/-- A finite non-negative factor distributes over any sum. -/
theorem sum_mul_coe {ι : Type} (s : Finset ι) (a : ι → EReal) {c : ℝ} (hc : 0 ≤ c) :
    (∑ i ∈ s, a i) * (c : EReal) = ∑ i ∈ s, a i * c := by
  classical
  induction s using Finset.induction_on with
  | empty => simp
  | insert i s hi ih =>
    rw [Finset.sum_insert hi, Finset.sum_insert hi, ← ih, mul_comm, mul_comm (a i), mul_comm (∑ i ∈ s, a i)]
    exact EReal.left_distrib_of_nonneg_of_ne_top (EReal.coe_nonneg.2 hc) (EReal.coe_ne_top c) _ _

/-- Any factor distributes over a sum of non-negative terms. -/
theorem sum_mul_of_nonneg {ι : Type} (s : Finset ι) (a : ι → EReal) (ha : ∀ i, 0 ≤ a i) (w : EReal) :
    (∑ i ∈ s, a i) * w = ∑ i ∈ s, a i * w := by
  classical
  induction s using Finset.induction_on with
  | empty => simp
  | insert i s hi ih =>
    rw [Finset.sum_insert hi, Finset.sum_insert hi, ← ih]
    exact EReal.right_distrib_of_nonneg (ha i) (Finset.sum_nonneg fun j _ => ha j)

/-- The mean of fifty copies of `β` is `β`, also at the infinities. -/
theorem sum_const_mul (β : EReal) : (∑ _k : Fin 50, β) * ((1 / 50 : ℝ) : EReal) = β := by
  rw [sum_mul_coe _ _ (by norm_num), Finset.sum_const, Finset.card_univ, Fintype.card_fin]
  induction β with
  | bot => rw [EReal.bot_mul_coe_of_pos (by norm_num)]; simp [succ_nsmul]
  | coe r =>
    rw [← EReal.coe_mul, ← EReal.coe_nsmul]
    congr 1
    rw [nsmul_eq_mul]; push_cast; ring
  | top => rw [EReal.top_mul_coe_of_pos (by norm_num)]; simp [succ_nsmul]

/-- Pooling before the last linear layer. The mean over fifty places of `∑ h, a k h * w h + β` is the layer applied to
    the pooled values, when the pooled values `a k h` are non-negative. -/
theorem mean_layer {ι : Type} [Fintype ι] (a : Fin 50 → ι → EReal) (ha : ∀ k h, 0 ≤ a k h) (w : ι → EReal) (β : EReal) :
    (∑ k, ((∑ h, a k h * w h) + β)) * ((1 / 50 : ℝ) : EReal)
      = (∑ h, ((∑ k, a k h) * ((1 / 50 : ℝ) : EReal)) * w h) + β := by
  have hc : (0 : ℝ) ≤ 1 / 50 := by norm_num
  rw [Finset.sum_add_distrib, mul_comm, EReal.left_distrib_of_nonneg_of_ne_top (EReal.coe_nonneg.2 hc) (EReal.coe_ne_top _),
    mul_comm, mul_comm _ (∑ _k : Fin 50, β), sum_const_mul, Finset.sum_comm, sum_mul_coe _ _ hc]
  congr 1
  refine Finset.sum_congr rfl fun h _ => ?_
  rw [← sum_mul_of_nonneg _ _ (fun k => ha k h), mul_right_comm]

/-- Counting: a sum of ones over the elements with a property is their number. -/
theorem sum_ite_one {ι : Type} (s : Finset ι) (p : ι → Prop) [DecidablePred p] :
    (∑ i ∈ s, if p i then (1 : EReal) else 0) = ((s.filter p).card : EReal) := by
  rw [Finset.sum_boole]

end Cert.Algebra
-- ==== Proof.Consts.lean ====
/-
  The numbers that the float constants of the programs denote, and the counting compare of the ranking.
-/
module

public import Idealize.ShloMosaic.PureOps.Ideal

@[expose] public section

noncomputable section

namespace Cert.Consts

open Idealize.ShloMosaic

/-- The literal `50.0` denotes the real fifty. -/
theorem ofBits_fifty : Ideal.ofBits .f32 0x42480000#32 = ((50 : ℝ) : EReal) := by
  simp [Ideal.ofBits, Ideal.ieee, -EReal.coe_mul]; norm_num

end Cert.Consts

end
-- ==== Proof.KernelBlock.lean ====
/-
  One sub-block of the pooling kernel, read at an index: sixteen rows of scores, the ranking of each row, the masked sum
  of the second layer, and the last linear layer.
-/
module

public import proofs.«01_k».proof.Proof.Gen.KernelIdeal.Skeleton
public import proofs.«01_k».proof.Proof.Spec
public import proofs.«01_k».proof.Proof.Algebra
public import proofs.«01_k».proof.Proof.Consts

@[expose] public section

set_option maxRecDepth 16384

noncomputable section

namespace Cert.KernelBlock

open Cert.KernelIdeal Cert.KernelIdeal.Gen Idealize.ShloMosaic Cert.Spec Cert.Select

/-- The named constant is one fiftieth. -/
theorem inv_k : Named.named (F := Ideal) κ "inv_k" (φ := .f32) 0x3CA3D70A#32 = ((1 / 50 : ℝ) : EReal) :=
  IdealRules.named_const.ideal_named_scalar _ _ _ _ rfl

/-- A select on a compare of a word with zero is an `if`. -/
theorem select_eq_zero (x : BitVec 32) (a b : EReal) :
    Scalar.select (IntOp.cmpi .eq x 0#32) a b = if x = 0#32 then a else b := by
  by_cases h : x = 0#32
  · simp [h, Scalar.select, IntOp.cmpi]
  · have hb : (x == 0#32) = false := beq_eq_false_iff_ne.2 h
    simp [h, hb, Scalar.select, IntOp.cmpi]

/-- The kernel's test of two positions is whether the one is ahead of the other. -/
theorem select_ahead (s : Fin 200 → EReal) (l x : Fin 200) :
    Scalar.select (IntOp.ori (BitVec.ofBool (decide (s l < s x)))
        (IntOp.andi (BitVec.ofBool (decide (s x = s l)))
          (IntOp.cmpi .slt (BitVec.ofNat 32 x) (BitVec.ofNat 32 l)))) (1 : EReal) 0
      = if Ahead s x l then 1 else 0 := by
  have hc : IntOp.cmpi .slt (BitVec.ofNat 32 x) (BitVec.ofNat 32 l) = BitVec.ofBool (decide (x < l)) := by
    have hx := x.isLt
    have hl := l.isLt
    have toInt_small : ∀ n : Nat, n < 200 → (BitVec.ofNat 32 n).toInt = n := fun n hn => by
      rw [BitVec.toInt_eq_toNat_of_lt] <;> rw [BitVec.toNat_ofNat] <;> omega
    show BitVec.ofBool (BitVec.slt _ _) = _
    rw [BitVec.slt, toInt_small x hx, toInt_small l hl]
    congr 1
    exact decide_eq_decide.2 (by rw [Fin.lt_def]; omega)
  rw [hc]
  unfold Ahead
  by_cases h₁ : s l < s x <;> by_cases h₂ : s x = s l <;> by_cases h₃ : x < l <;>
    simp [h₁, h₂, h₃, Scalar.select, IntOp.ori, IntOp.andi]

/-- The kernel's weight of a position: one when fewer than fifty positions are ahead of it, zero otherwise. -/
theorem weight (s : Fin 200 → EReal) (l : Fin 200) :
    FloatOps.sitofp (F := Ideal) .f32 (BitVec.setWidth 32 (BitVec.ofBool (decide
      (∑ x : Fin 200, Scalar.select (IntOp.ori (BitVec.ofBool (decide (s l < s x)))
        (IntOp.andi (BitVec.ofBool (decide (s x = s l)))
          (IntOp.cmpi .slt (BitVec.ofNat 32 x) (BitVec.ofNat 32 l)))) (1 : EReal) 0
        < Ideal.ofBits .f32 0x42480000#32))))
      = if rank s l < 50 then (1 : EReal) else 0 := by
  simp only [select_ahead, Algebra.sum_ite_one, Consts.ofBits_fifty]
  have e : (((Finset.univ.filter fun x => Ahead s x l).card : EReal) < ((50 : ℝ) : EReal)) ↔ rank s l < 50 := by
    rw [← rank, ← EReal.coe_natCast, EReal.coe_lt_coe_iff]
    exact_mod_cast Iff.rfl
  by_cases h : rank s l < 50
  · rw [decide_eq_true (e.2 h), if_pos h]
    show ((((BitVec.setWidth 32 (BitVec.ofBool true)).toInt : ℝ)) : EReal) = 1
    rw [show (BitVec.setWidth 32 (BitVec.ofBool true)).toInt = 1 from by decide]; norm_num
  · rw [decide_eq_false (mt e.1 h), if_neg h]
    show ((((BitVec.setWidth 32 (BitVec.ofBool false)).toInt : ℝ)) : EReal) = 0
    rw [show (BitVec.setWidth 32 (BitVec.ofBool false)).toInt = 0 from by decide]; norm_num

/-- The masked score of row `r`, position `l` of a sub-block. -/
theorem key_apply (p : FVec Ideal S1x200x512 .f32) (xs : Vec Ideal S16x200x128 .f32) (W : Vec Ideal S128x512 .f32)
    (w : Vec Ideal S512x1 .f32) (ms : Vec Ideal S16x200 .i32) (r : Fin 16) (l : Fin 200) :
    k1_pay10 p xs W w ms (ix2 r l) = if ms (ix2 r l) = 0#32 then maskScore
      else ∑ h : Fin 512, max ((∑ d : Fin 128, xs (ix3 r l d) * W (ix2 d h)) + p (ix3 0 l h)) 0 * w (ix2 h 0) := by
  pointwise [k1_pay10]
  exact select_eq_zero _ _ _

/-- The second layer of row `r`, position `l`, unit `h`, with the weight of its position multiplied in. -/
theorem weighted_apply (pe : FVec Ideal S1x200x512 .f32) (a : FVec Ideal S16x200x512 .f32) (s : FVec Ideal S16x200 .f32)
    (r : Fin 16) (l : Fin 200) (h : Fin 512) :
    k1_pay7 pe a s (ix3 r l h)
      = if rank (fun l => s (ix2 r l)) l < 50 then max (a (ix3 r l h) + pe (ix3 0 l h)) 0 else 0 := by
  pointwise [k1_pay7]
  rw [weight fun l => s (ix2 r l), mul_ite, mul_one, mul_zero]

/-- The last layer of a sub-block's row `r` at output `o`. -/
theorem last_apply (a : FVec Ideal S16x200x512 .f32) (W : Vec Ideal S512x128 .f32) (b : Vec Ideal S1x128 .f32)
    (r : Fin 16) (o : Fin 128) :
    k1_pay8 a W b (ix2 r o)
      = (∑ h : Fin 512, ((∑ l : Fin 200, a (ix3 r l h)) * ((1 / 50 : ℝ) : EReal)) * W (ix2 h o)) + b (ix2 0 o) := by
  pointwise [k1_pay8]
  rw [inv_k]

/-- The second product of a sub-block. -/
theorem enc_apply (xs : Vec Ideal S16x200x128 .f32) (W : Vec Ideal S128x512 .f32) (r : Fin 16) (l : Fin 200) (h : Fin 512) :
    k1_pay3 xs W (ix3 r l h) = ∑ d : Fin 128, xs (ix3 r l d) * W (ix2 d h) := by
  pointwise [k1_pay3]

/-- The first layer's position part with its bias, for every row. -/
theorem posImp_apply (v0 : Vec Ideal S200x512 .f32) (v2 : Vec Ideal S1x512 .f32) (l : Fin 200) (h : Fin 512) :
    k1_pay1 v0 v2 (ix3 0 l h) = v0 (ix2 l h) + v2 (ix2 0 h) := by
  pointwise [k1_pay1]

/-- The second layer's position part, for every row. -/
theorem posEnc_apply (v7 : Vec Ideal S200x512 .f32) (l : Fin 200) (h : Fin 512) :
    k1_pay2 v7 (ix3 0 l h) = v7 (ix2 l h) := by
  pointwise [k1_pay2]

/-- The result of one row from the products' operands: the row's features, its mask, the two position parts (bias
    included) and the weights. -/
def rowOut (x : Fin 200 → Fin 128 → EReal) (mk : Fin 200 → BitVec 32) (p pe : Fin 200 → Fin 512 → EReal)
    (W : Fin 128 → Fin 512 → EReal) (w : Fin 512 → EReal) (We : Fin 128 → Fin 512 → EReal)
    (W2 : Fin 512 → Fin 128 → EReal) (b2 : Fin 128 → EReal) (o : Fin 128) : EReal :=
  (∑ h : Fin 512, ((∑ l : Fin 200,
      if rank (fun l => if mk l = 0#32 then maskScore
          else ∑ h : Fin 512, max ((∑ d : Fin 128, x l d * W d h) + p l h) 0 * w h) l < 50
      then max ((∑ d : Fin 128, x l d * We d h) + pe l h) 0 else 0)
    * ((1 / 50 : ℝ) : EReal)) * W2 h o) + b2 o

/-- What a sub-block stores, from what it loads. -/
def subOut {F : FTy → Type} [FloatOps F] [Named F] (xs : Vec F S16x200x128 .f32) (ms : Vec F S16x200 .i32)
    (pi pe : Vec F S200x512 .f32) (W : Vec F S128x512 .f32) (b1 : Vec F S1x512 .f32) (w : Vec F S512x1 .f32)
    (We : Vec F S128x512 .f32) (W2 : Vec F S512x128 .f32) (b2 : Vec F S1x128 .f32) : FVec F S16x128 .f32 :=
  k1_pay8 (k1_pay7 (k1_pay2 pe) (k1_pay3 xs We) (k1_pay10 (k1_pay1 pi b1) xs W w ms)) W2 b2

/-- A sub-block's stored value at row `r`, output `o`. -/
theorem subOut_apply (xs : Vec Ideal S16x200x128 .f32) (ms : Vec Ideal S16x200 .i32)
    (pi pe : Vec Ideal S200x512 .f32) (W : Vec Ideal S128x512 .f32) (b1 : Vec Ideal S1x512 .f32) (w : Vec Ideal S512x1 .f32)
    (We : Vec Ideal S128x512 .f32) (W2 : Vec Ideal S512x128 .f32) (b2 : Vec Ideal S1x128 .f32) (r : Fin 16) (o : Fin 128) :
    subOut xs ms pi pe W b1 w We W2 b2 (ix2 r o)
      = rowOut (fun l d => xs (ix3 r l d)) (fun l => ms (ix2 r l)) (fun l h => pi (ix2 l h) + b1 (ix2 0 h))
          (fun l h => pe (ix2 l h)) (fun d h => W (ix2 d h)) (fun h => w (ix2 h 0)) (fun d h => We (ix2 d h))
          (fun h o => W2 (ix2 h o)) (fun o => b2 (ix2 0 o)) o := by
  unfold subOut
  rw [last_apply]
  simp only [weighted_apply, key_apply, enc_apply, posImp_apply, posEnc_apply]
  rfl

end Cert.KernelBlock

end
-- ==== Proof.KernelPoint.lean ====
/-
  What one grid point of the pooling kernel leaves in its output block. The body stores eight sub-blocks of sixteen
  rows; every one of them is the same function of the rows it loads, so the block is one function of its row.
-/
module

public import proofs.«01_k».proof.Proof.Gen.KernelIdeal.Frame
public import proofs.«01_k».proof.Proof.KernelBlock
public import Idealize.ShloMosaic.Lib.Pipeline.Value

@[expose] public section

set_option maxRecDepth 16384

noncomputable section

namespace Cert.KernelPoint

open Cert.KernelIdeal Cert.KernelIdeal.Gen Idealize.ShloMosaic Cert.Spec Cert.Select Cert.KernelBlock

section Pieces

variable {F : FTy → Type} [FloatOps F] [Named F]
variable (x0 : Vec F S128x200x128 .f32) (x1 : Vec F S128x200 .i32) (x2 : Vec F S200x512 .f32) (x3 : Vec F S200x512 .f32)
  (x4 : Vec F S256x512 .f32) (x5 : Vec F S1x512 .f32) (x6 : Vec F S512x1 .f32) (x7 : Vec F S256x512 .f32)
  (x8 : Vec F S512x128 .f32) (x9 : Vec F S1x128 .f32)

/-- A sub-block's stored value, the weights loaded and the rows given. -/
def piece (xs : Vec F S16x200x128 .f32) (ms : Vec F S16x200 .i32) : FVec F S16x128 .f32 :=
  subOut xs ms (View.ld x2 r1_0) (View.ld x3 r1_0) (View.ld x4 r1_3) (View.ld x5 r1_1) (View.ld x6 r1_4)
    (View.ld x7 r1_3) (View.ld x8 r1_8) (View.ld x9 r1_9)

/-- The eight stores of the body are eight instances of one sub-block. -/
theorem out_eq : out1_10 x0 x1 x2 x3 x4 x5 x6 x7 x8 x9 =
    View.canon [⟨r1_29, piece x2 x3 x4 x5 x6 x7 x8 x9 (View.ld x0 r1_26) (View.ld x1 r1_27)⟩,
      ⟨r1_28, piece x2 x3 x4 x5 x6 x7 x8 x9 (View.ld x0 r1_23) (View.ld x1 r1_24)⟩,
      ⟨r1_25, piece x2 x3 x4 x5 x6 x7 x8 x9 (View.ld x0 r1_20) (View.ld x1 r1_21)⟩,
      ⟨r1_22, piece x2 x3 x4 x5 x6 x7 x8 x9 (View.ld x0 r1_17) (View.ld x1 r1_18)⟩,
      ⟨r1_19, piece x2 x3 x4 x5 x6 x7 x8 x9 (View.ld x0 r1_14) (View.ld x1 r1_15)⟩,
      ⟨r1_16, piece x2 x3 x4 x5 x6 x7 x8 x9 (View.ld x0 r1_11) (View.ld x1 r1_12)⟩,
      ⟨r1_13, piece x2 x3 x4 x5 x6 x7 x8 x9 (View.ld x0 r1_6) (View.ld x1 r1_7)⟩,
      ⟨r1_10, piece x2 x3 x4 x5 x6 x7 x8 x9 (View.ld x0 r1_2) (View.ld x1 r1_5)⟩] := rfl

end Pieces

variable (x0 : Vec Ideal S128x200x128 .f32) (x1 : Vec Ideal S128x200 .i32) (x2 : Vec Ideal S200x512 .f32)
  (x3 : Vec Ideal S200x512 .f32) (x4 : Vec Ideal S256x512 .f32) (x5 : Vec Ideal S1x512 .f32) (x6 : Vec Ideal S512x1 .f32)
  (x7 : Vec Ideal S256x512 .f32) (x8 : Vec Ideal S512x128 .f32) (x9 : Vec Ideal S1x128 .f32)

/-- The value of row `r` of the block at output `o`. -/
def blockRow (r : Fin 128) (o : Fin 128) : EReal :=
  rowOut (fun l d => x0 (ix3 r l d)) (fun l => x1 (ix2 r l)) (fun l h => x2 (ix2 l h) + x5 (ix2 0 h))
    (fun l h => x3 (ix2 l h)) (fun d h => x4 (ix2 ⟨d, by omega⟩ h)) (fun h => x6 (ix2 h 0))
    (fun d h => x7 (ix2 ⟨d, by omega⟩ h)) (fun h o => x8 (ix2 h o)) (fun o => x9 (ix2 0 o)) o

/-- A sub-block that loads the sixteen rows from row `k` on stores the values of those rows. -/
theorem piece_apply (k : Nat) (hk : k + 16 ≤ 128) (xs : Vec Ideal S16x200x128 .f32) (ms : Vec Ideal S16x200 .i32)
    (hx : ∀ (r : Fin 16) l d, xs (ix3 r l d) = x0 (ix3 ⟨k + r, by omega⟩ l d))
    (hm : ∀ (r : Fin 16) l, ms (ix2 r l) = x1 (ix2 ⟨k + r, by omega⟩ l)) (r : Fin 16) (o : Fin 128) :
    piece x2 x3 x4 x5 x6 x7 x8 x9 xs ms (ix2 r o) = blockRow x0 x1 x2 x3 x4 x5 x6 x7 x8 x9 ⟨k + r, by omega⟩ o := by
  unfold piece
  rw [subOut_apply]
  simp only [hx, hm]
  pointwise [blockRow]

/-- The same with the loads spelt: a sub-block at row offset `k` stores, at each of its places, the value of the row and
    output that the place has in the block. -/
theorem piece_rect (k : Nat) (ho : ∀ a, (![k, 0] : Fin 2 → Nat) a + S16x128.size a ≤ S128x128.size a)
    (hx : ∀ a, (![k, 0, 0] : Fin 3 → Nat) a + S16x200x128.size a ≤ S128x200x128.size a)
    (hm : ∀ a, (![k, 0] : Fin 2 → Nat) a + S16x200.size a ≤ S128x200.size a) (x : S16x128.Idx) :
    piece x2 x3 x4 x5 x6 x7 x8 x9 (View.ld x0 (Rect.unit (s := S128x200x128) ![k, 0, 0] S16x200x128.size hx))
        (View.ld x1 (Rect.unit (s := S128x200) ![k, 0] S16x200.size hm)) x
      = blockRow x0 x1 x2 x3 x4 x5 x6 x7 x8 x9 ((Rect.unit (s := S128x128) ![k, 0] S16x128.size ho).emb x 0)
          ((Rect.unit (s := S128x128) ![k, 0] S16x128.size ho).emb x 1) := by
  have hk : k + 16 ≤ 128 := ho 0
  obtain ⟨r, o, rfl⟩ : ∃ (r : Fin 16) (o : Fin 128), x = ix2 r o := ⟨x 0, x 1, eq_ix2 x⟩
  refine (piece_apply x0 x1 x2 x3 x4 x5 x6 x7 x8 x9 k hk _ _ (fun r l d => ?_) (fun r l => ?_) r o).trans ?_
  · refine congrArg x0 (funext fun a => Fin.ext ?_)
    fin_cases a
    · show k + 1 * (r : Nat) = k + r; omega
    · show 0 + 1 * (l : Nat) = l; omega
    · show 0 + 1 * (d : Nat) = d; omega
  · refine congrArg x1 (funext fun a => Fin.ext ?_)
    fin_cases a
    · show k + 1 * (r : Nat) = k + r; omega
    · show 0 + 1 * (l : Nat) = l; omega
  · refine congrArg₂ (blockRow x0 x1 x2 x3 x4 x5 x6 x7 x8 x9) (Fin.ext ?_) (Fin.ext ?_)
    · show k + (r : Nat) = k + 1 * r; omega
    · show (o : Nat) = 0 + 1 * o; omega

/-- The output block after the body, row by row. -/
theorem out_apply (r o : Fin 128) : out1_10 x0 x1 x2 x3 x4 x5 x6 x7 x8 x9 (ix2 r o)
    = blockRow x0 x1 x2 x3 x4 x5 x6 x7 x8 x9 r o := by
  rw [out_eq]
  refine View.canon_apply_of_pieces (Val := Elt Ideal)
    (fun y : S128x128.Idx => blockRow x0 x1 x2 x3 x4 x5 x6 x7 x8 x9 (y 0) (y 1)) _ ?_ _
    (cover1_10 _ _ _ _ _ _ _ _ _)
  simp only [List.forall_mem_cons]
  refine ⟨?_, ?_, ?_, ?_, ?_, ?_, ?_, ?_, fun p hp => absurd hp (List.not_mem_nil)⟩ <;>
    exact fun x => piece_rect x0 x1 x2 x3 x4 x5 x6 x7 x8 x9 _ _ _ _ x

end Cert.KernelPoint

end
-- ==== Proof.KernelArrays.lean ====
/-
  The arrays the two kernel launches leave, read at an index. The first launch has one point whose blocks are whole
  arrays. The second has eight points; point `t` reads and writes the rows `128 t … 128 t + 127` and reads every weight
  array whole.
-/
module

public import proofs.«01_k».proof.Proof.KernelPoint

@[expose] public section

set_option maxRecDepth 16384

noncomputable section

namespace Cert.KernelArrays

open Cert.KernelIdeal Cert.KernelIdeal.Gen Idealize.ShloMosaic Idealize.ShloMosaic.TcCoe Idealize.SL.Sem
open Idealize.ShloMosaic.Pipeline (Dat)
open Cert.KernelPoint Cert.KernelBlock Cert.Spec

variable {F : FTy → Type} [FloatOps F] [Named F]
variable (V : (c : Dev nD) → (b : Ref sig .tc) → Buf (Elt F) ((c : Thread nD τ).loc b)) (c : Dev nD)

/-! ## The first launch -/

/-- Two zero offsets are the zero offset. -/
theorem hz : (![0, 0] : Fin 2 → Nat) = fun _ => 0 := funext fun a => by fin_cases a <;> rfl

/-- The one point's block of the position rows is the whole array. -/
theorem blk0_0 (t : Fin cfg0.N) : iblk0 V c 0 t = V c main_call0_v0 := by
  rcases fin_N0 t with rfl
  funext j
  refine congrArg (V c main_call0_v0) (funext fun a => Fin.ext ?_)
  show 0 * _ + 1 * (j a : Nat) = j a
  omega

/-- So is its block of the scorer's first weight, -/
theorem blk0_1 (t : Fin cfg0.N) : iblk0 V c 1 t = V c main_arg3 := by
  rcases fin_N0 t with rfl
  funext j
  refine congrArg (V c main_arg3) (funext fun a => Fin.ext ?_)
  show 0 * _ + 1 * (j a : Nat) = j a
  omega

/-- of the encoder's first weight, -/
theorem blk0_2 (t : Fin cfg0.N) : iblk0 V c 2 t = V c main_arg7 := by
  rcases fin_N0 t with rfl
  funext j
  refine congrArg (V c main_arg7) (funext fun a => Fin.ext ?_)
  show 0 * _ + 1 * (j a : Nat) = j a
  omega

/-- and of the encoder's first bias. -/
theorem blk0_3 (t : Fin cfg0.N) : iblk0 V c 3 t = V c main_call0_v2 := by
  rcases fin_N0 t with rfl
  funext j
  refine congrArg (V c main_call0_v2) (funext fun a => Fin.ext ?_)
  show 0 * _ + 1 * (j a : Nat) = j a
  omega

/-- The one point writes output 4 whole. -/
theorem flushed0_4 (t : Fin cfg0.N) : (dat0 V c).flushed 4 t = ((cfg0.win 4).blk t).view.read (Elt F)
    (out0_4 (V c main_call0_v0) (V c main_arg3) (V c main_arg7) (V c main_call0_v2)) := by
  show (cfg0.win 4).cut (grid0.coords t) ((dat0 V c).after 4 t) = _
  rw [after0_4, blk0_0, blk0_1, blk0_2, blk0_3]
  generalize out0_4 (V c main_call0_v0) (V c main_arg3) (V c main_arg7) (V c main_call0_v2) = X
  rcases fin_N0 t with rfl
  funext j
  show X _ = X _
  refine congrArg X (funext fun a => Fin.ext ?_)
  show (j a : Nat) = 0 * _ + 1 * (j a : Nat)
  omega

/-- Every index of output 4 is in the one point's block. -/
theorem cover0_4 (i : S200x512.Idx) :
    ∃ t : Fin cfg0.N, (cfg0.win 4).flush t = true ∧ i ∈ ((cfg0.win 4).blk t).view.set := by
  have hN : cfg0.N = 1 := N_0
  have h0 : (i 0 : Nat) < 200 := (i 0).isLt
  have h1 : (i 1 : Nat) < 512 := (i 1).isLt
  have t : Fin cfg0.N := ⟨0, by omega⟩
  refine ⟨t, flush0_4 t, ?_⟩
  show i ∈ ((View.whole main_call0_v4_0).slice (win0_4.rect t)).set
  rw [View.set_slice_whole, Rect.mem_set_unit]
  intro a
  show 0 * _ ≤ (i a : Nat) ∧ (i a : Nat) < 0 * _ + S200x512.size a
  have := (i a).isLt
  have : (i a : Nat) < S200x512.size a := (i a).isLt
  omega

/-- Output 4 of the first launch, as an array. -/
theorem arr0_4 : (dat0 V c).arrAt 4 cfg0.N
    = out0_4 (V c main_call0_v0) (V c main_arg3) (V c main_arg7) (V c main_call0_v2) :=
  (dat0 V c).arrAt_eq_of_cover 4 _ (fun t _ => flushed0_4 V c t) cover0_4

/-- The one point writes output 5 whole. -/
theorem flushed0_5 (t : Fin cfg0.N) : (dat0 V c).flushed 5 t = ((cfg0.win 5).blk t).view.read (Elt F)
    (out0_5 (V c main_call0_v0) (V c main_arg3) (V c main_arg7) (V c main_call0_v2)) := by
  show (cfg0.win 5).cut (grid0.coords t) ((dat0 V c).after 5 t) = _
  rw [after0_5, blk0_0, blk0_1, blk0_2, blk0_3]
  generalize out0_5 (V c main_call0_v0) (V c main_arg3) (V c main_arg7) (V c main_call0_v2) = X
  rcases fin_N0 t with rfl
  funext j
  show X _ = X _
  refine congrArg X (funext fun a => Fin.ext ?_)
  show (j a : Nat) = 0 * _ + 1 * (j a : Nat)
  omega

/-- Every index of output 5 is in the one point's block. -/
theorem cover0_5 (i : S200x512.Idx) :
    ∃ t : Fin cfg0.N, (cfg0.win 5).flush t = true ∧ i ∈ ((cfg0.win 5).blk t).view.set := by
  have hN : cfg0.N = 1 := N_0
  have h0 : (i 0 : Nat) < 200 := (i 0).isLt
  have h1 : (i 1 : Nat) < 512 := (i 1).isLt
  have t : Fin cfg0.N := ⟨0, by omega⟩
  refine ⟨t, flush0_5 t, ?_⟩
  show i ∈ ((View.whole main_call0_v4_1).slice (win0_5.rect t)).set
  rw [View.set_slice_whole, Rect.mem_set_unit]
  intro a
  show 0 * _ ≤ (i a : Nat) ∧ (i a : Nat) < 0 * _ + S200x512.size a
  have := (i a).isLt
  have : (i a : Nat) < S200x512.size a := (i a).isLt
  omega

/-- Output 5 of the first launch, as an array. -/
theorem arr0_5 : (dat0 V c).arrAt 5 cfg0.N
    = out0_5 (V c main_call0_v0) (V c main_arg3) (V c main_arg7) (V c main_call0_v2) :=
  (dat0 V c).arrAt_eq_of_cover 5 _ (fun t _ => flushed0_5 V c t) cover0_5

/-! ## The second launch -/

/-- Point `t`'s block of the sequences: the rows from `128 t` on. -/
theorem blk1_0 (t : Fin cfg1.N) (r : Fin 128) (l : Fin 200) (d : Fin 128) (hr : 128 * t.val + r.val < 1024) :
    iblk1 V c 0 t (ix3 r l d) = V c main_arg0 (ix3 ⟨128 * t + r, hr⟩ l d) := by
  have e : ∀ t : Fin cfg1.N, win1_0.index t 0 = t.val ∧ win1_0.index t 1 = 0 ∧ win1_0.index t 2 = 0 := by decide +kernel
  refine congrArg (V c main_arg0) (funext fun a => Fin.ext ?_)
  fin_cases a
  · show win1_0.index t 0 * 128 + 1 * (r : Nat) = 128 * t + r
    rw [(e t).1]; omega
  · show win1_0.index t 1 * 200 + 1 * (l : Nat) = l
    rw [(e t).2.1]; omega
  · show win1_0.index t 2 * 128 + 1 * (d : Nat) = d
    rw [(e t).2.2]; omega

/-- Point `t`'s block of the mask: the same rows. -/
theorem blk1_1 (t : Fin cfg1.N) (r : Fin 128) (l : Fin 200) (hr : 128 * t.val + r.val < 1024) :
    iblk1 V c 1 t (ix2 r l) = V c main_arg1 (ix2 ⟨128 * t + r, hr⟩ l) := by
  have e : ∀ t : Fin cfg1.N, win1_1.index t 0 = t.val ∧ win1_1.index t 1 = 0 := by decide +kernel
  refine congrArg (V c main_arg1) (funext fun a => Fin.ext ?_)
  fin_cases a
  · show win1_1.index t 0 * 128 + 1 * (r : Nat) = 128 * t + r
    rw [(e t).1]; omega
  · show win1_1.index t 1 * 200 + 1 * (l : Nat) = l
    rw [(e t).2]; omega

/-- Every point's block of the scorer's position array is the whole array; -/
theorem blk1_2 (t : Fin cfg1.N) : iblk1 V c 2 t = V c main_call0_v4_0 := by
  have e : ∀ t : Fin cfg1.N, win1_2.index t 0 = 0 ∧ win1_2.index t 1 = 0 := by decide +kernel
  funext j
  refine congrArg (V c main_call0_v4_0) (funext fun a => Fin.ext ?_)
  fin_cases a
  · show win1_2.index t 0 * _ + 1 * (j 0 : Nat) = j 0
    rw [(e t).1]; omega
  · show win1_2.index t 1 * _ + 1 * (j 1 : Nat) = j 1
    rw [(e t).2]; omega

/-- so is its block of the encoder's position array, -/
theorem blk1_3 (t : Fin cfg1.N) : iblk1 V c 3 t = V c main_call0_v4_1 := by
  have e : ∀ t : Fin cfg1.N, win1_3.index t 0 = 0 ∧ win1_3.index t 1 = 0 := by decide +kernel
  funext j
  refine congrArg (V c main_call0_v4_1) (funext fun a => Fin.ext ?_)
  fin_cases a
  · show win1_3.index t 0 * _ + 1 * (j 0 : Nat) = j 0
    rw [(e t).1]; omega
  · show win1_3.index t 1 * _ + 1 * (j 1 : Nat) = j 1
    rw [(e t).2]; omega

/-- of the scorer's first weight, -/
theorem blk1_4 (t : Fin cfg1.N) : iblk1 V c 4 t = V c main_arg3 := by
  have e : ∀ t : Fin cfg1.N, win1_4.index t 0 = 0 ∧ win1_4.index t 1 = 0 := by decide +kernel
  funext j
  refine congrArg (V c main_arg3) (funext fun a => Fin.ext ?_)
  fin_cases a
  · show win1_4.index t 0 * _ + 1 * (j 0 : Nat) = j 0
    rw [(e t).1]; omega
  · show win1_4.index t 1 * _ + 1 * (j 1 : Nat) = j 1
    rw [(e t).2]; omega

/-- of its first bias, -/
theorem blk1_5 (t : Fin cfg1.N) : iblk1 V c 5 t = V c main_call0_v1 := by
  have e : ∀ t : Fin cfg1.N, win1_5.index t 0 = 0 ∧ win1_5.index t 1 = 0 := by decide +kernel
  funext j
  refine congrArg (V c main_call0_v1) (funext fun a => Fin.ext ?_)
  fin_cases a
  · show win1_5.index t 0 * _ + 1 * (j 0 : Nat) = j 0
    rw [(e t).1]; omega
  · show win1_5.index t 1 * _ + 1 * (j 1 : Nat) = j 1
    rw [(e t).2]; omega

/-- of its second weight, -/
theorem blk1_6 (t : Fin cfg1.N) : iblk1 V c 6 t = V c main_arg5 := by
  have e : ∀ t : Fin cfg1.N, win1_6.index t 0 = 0 ∧ win1_6.index t 1 = 0 := by decide +kernel
  funext j
  refine congrArg (V c main_arg5) (funext fun a => Fin.ext ?_)
  fin_cases a
  · show win1_6.index t 0 * _ + 1 * (j 0 : Nat) = j 0
    rw [(e t).1]; omega
  · show win1_6.index t 1 * _ + 1 * (j 1 : Nat) = j 1
    rw [(e t).2]; omega

/-- of the encoder's first weight, -/
theorem blk1_7 (t : Fin cfg1.N) : iblk1 V c 7 t = V c main_arg7 := by
  have e : ∀ t : Fin cfg1.N, win1_7.index t 0 = 0 ∧ win1_7.index t 1 = 0 := by decide +kernel
  funext j
  refine congrArg (V c main_arg7) (funext fun a => Fin.ext ?_)
  fin_cases a
  · show win1_7.index t 0 * _ + 1 * (j 0 : Nat) = j 0
    rw [(e t).1]; omega
  · show win1_7.index t 1 * _ + 1 * (j 1 : Nat) = j 1
    rw [(e t).2]; omega

/-- of its second weight, -/
theorem blk1_8 (t : Fin cfg1.N) : iblk1 V c 8 t = V c main_arg9 := by
  have e : ∀ t : Fin cfg1.N, win1_8.index t 0 = 0 ∧ win1_8.index t 1 = 0 := by decide +kernel
  funext j
  refine congrArg (V c main_arg9) (funext fun a => Fin.ext ?_)
  fin_cases a
  · show win1_8.index t 0 * _ + 1 * (j 0 : Nat) = j 0
    rw [(e t).1]; omega
  · show win1_8.index t 1 * _ + 1 * (j 1 : Nat) = j 1
    rw [(e t).2]; omega

/-- and of its second bias. -/
theorem blk1_9 (t : Fin cfg1.N) : iblk1 V c 9 t = V c main_call0_v3 := by
  have e : ∀ t : Fin cfg1.N, win1_9.index t 0 = 0 ∧ win1_9.index t 1 = 0 := by decide +kernel
  funext j
  refine congrArg (V c main_call0_v3) (funext fun a => Fin.ext ?_)
  fin_cases a
  · show win1_9.index t 0 * _ + 1 * (j 0 : Nat) = j 0
    rw [(e t).1]; omega
  · show win1_9.index t 1 * _ + 1 * (j 1 : Nat) = j 1
    rw [(e t).2]; omega

/-- The value of row `b` of the result array at output `o`, from the arrays the second launch starts with. -/
def rowAt (V : (c : Dev nD) → (b : Ref sig .tc) → Buf (Elt Ideal) ((c : Thread nD τ).loc b)) (c : Dev nD)
    (b : Fin 1024) (o : Fin 128) : EReal :=
  rowOut (fun l d => V c main_arg0 (ix3 b l d)) (fun l => V c main_arg1 (ix2 b l))
    (fun l h => @HAdd.hAdd EReal EReal EReal _ (V c main_call0_v4_0 (ix2 l h)) (V c main_call0_v1 (ix2 0 h)))
    (fun l h => V c main_call0_v4_1 (ix2 l h)) (fun d h => V c main_arg3 (ix2 ⟨d, by omega⟩ h))
    (fun h => V c main_arg5 (ix2 h 0)) (fun d h => V c main_arg7 (ix2 ⟨d, by omega⟩ h))
    (fun h o => V c main_arg9 (ix2 h o)) (fun o => V c main_call0_v3 (ix2 0 o)) o

variable (V : (c : Dev nD) → (b : Ref sig .tc) → Buf (Elt Ideal) ((c : Thread nD τ).loc b)) (c : Dev nD)

/-- What point `t` writes back is its rows of the result array. -/
theorem flushed1_10 (t : Fin cfg1.N) : (dat1 V c).flushed 10 t = ((cfg1.win 10).blk t).view.read (Elt Ideal)
    (fun i : S1024x128.Idx => rowAt V c (i 0) (i 1)) := by
  show (cfg1.win 10).cut (grid1.coords t) ((dat1 V c).after 10 t) = _
  rw [after1_10]
  have ht : t.val < 8 := N_1 ▸ t.isLt
  have e : ∀ t : Fin cfg1.N, win1_10.index t 0 = t.val ∧ win1_10.index t 1 = 0 := by decide +kernel
  refine funext fun (j : S128x128.Idx) => ?_
  obtain ⟨r, o, rfl⟩ : ∃ (r : Fin 128) (o : Fin 128), j = ix2 r o := ⟨j 0, j 1, eq_ix2 j⟩
  refine (out_apply _ _ _ _ _ _ _ _ _ _ r o).trans ?_
  have hr : 128 * t.val + r.val < 1024 := by omega
  have hrow : ∀ i : S1024x128.Idx, ix2 ⟨128 * t + r, hr⟩ o = i →
      rowAt V c ⟨128 * t + r, hr⟩ o = rowAt V c (i 0) (i 1) := by rintro i rfl; rfl
  refine Eq.trans ?_ (hrow (((cfg1.win 10).blk t).view.emb (ix2 r o)) (funext fun a => Fin.ext ?_))
  · unfold blockRow rowAt
    rw [blk1_2, blk1_3, blk1_4, blk1_5, blk1_6, blk1_7, blk1_8, blk1_9]
    simp only [blk1_0 V c t _ _ _ hr, blk1_1 V c t _ _ hr]
  · fin_cases a
    · show 128 * t.val + r.val = win1_10.index t 0 * 128 + 1 * (r : Nat)
      rw [(e t).1]; omega
    · show (o : Nat) = win1_10.index t 1 * 128 + 1 * (o : Nat)
      rw [(e t).2]; omega

/-- Row `b` of the result array is in the block of point `b / 128`. -/
theorem cover1_10 (i : S1024x128.Idx) :
    ∃ t : Fin cfg1.N, (cfg1.win 10).flush t = true ∧ i ∈ ((cfg1.win 10).blk t).view.set := by
  have hN : cfg1.N = 8 := N_1
  have h0 : (i 0 : Nat) < 1024 := (i 0).isLt
  have h1 : (i 1 : Nat) < 128 := (i 1).isLt
  have e : ∀ t : Fin cfg1.N, win1_10.index t 0 = t.val ∧ win1_10.index t 1 = 0 := by decide +kernel
  obtain ⟨t, ht⟩ : ∃ t : Fin cfg1.N, t.val = (i 0 : Nat) / 128 := ⟨⟨(i 0 : Nat) / 128, by omega⟩, rfl⟩
  refine ⟨t, flush1_10 t, ?_⟩
  show i ∈ ((View.whole main_v0).slice (win1_10.rect t)).set
  rw [View.set_slice_whole, Rect.mem_set_unit]
  intro a
  match a with
  | ⟨0, _⟩ => show win1_10.index t 0 * 128 ≤ (i 0 : Nat) ∧ (i 0 : Nat) < win1_10.index t 0 * 128 + 128
              rw [(e t).1]; omega
  | ⟨1, _⟩ => show win1_10.index t 1 * 128 ≤ (i 1 : Nat) ∧ (i 1 : Nat) < win1_10.index t 1 * 128 + 128
              rw [(e t).2]; omega

/-- The result array after the second launch, row by row. -/
theorem arr1_10 : (dat1 V c).arrAt 10 cfg1.N = fun i : S1024x128.Idx => rowAt V c (i 0) (i 1) :=
  (dat1 V c).arrAt_eq_of_cover 10 _ (fun t _ => flushed1_10 V c t) cover1_10

/-- Output 4 of the first launch, at an index: the position row times the lower half of the scorer's first weight. -/
theorem out0_4_apply (X : Vec Ideal S200x128 .f32) (Wi We : Vec Ideal S256x512 .f32) (b : Vec Ideal S1x512 .f32)
    (l : Fin 200) (h : Fin 512) :
    out0_4 X Wi We b (ix2 l h) = ∑ d : Fin 128, X (ix2 l d) * Wi (ix2 ⟨128 + d, by omega⟩ h) := by
  unfold out0_4
  rw [View.canon_unit_zero hz, View.ld_unit_zero hz]
  have hW : ∀ d : Fin 128, View.ld Wi r0_1 (ix2 d h) = Wi (ix2 ⟨128 + d, by omega⟩ h) := fun d =>
    congrArg Wi (funext fun a => Fin.ext (by fin_cases a <;> [show 128 + 1 * (d : Nat) = 128 + d; show 0 + 1 * (h : Nat) = h] <;> omega))
  simp only [← hW]
  pointwise [k0_pay2, k0_pay1]

/-- Output 5 of the first launch, at an index: the position row times the lower half of the encoder's first weight,
    with the bias. -/
theorem out0_5_apply (X : Vec Ideal S200x128 .f32) (Wi We : Vec Ideal S256x512 .f32) (b : Vec Ideal S1x512 .f32)
    (l : Fin 200) (h : Fin 512) :
    out0_5 X Wi We b (ix2 l h) = (∑ d : Fin 128, X (ix2 l d) * We (ix2 ⟨128 + d, by omega⟩ h)) + b (ix2 0 h) := by
  unfold out0_5
  rw [View.canon_unit_zero hz, View.ld_unit_zero hz, View.ld_unit_zero hz]
  have hW : ∀ d : Fin 128, View.ld We r0_1 (ix2 d h) = We (ix2 ⟨128 + d, by omega⟩ h) := fun d =>
    congrArg We (funext fun a => Fin.ext (by fin_cases a <;> [show 128 + 1 * (d : Nat) = 128 + d; show 0 + 1 * (h : Nat) = h] <;> omega))
  simp only [← hW]
  pointwise [k0_pay3, k0_pay1]

end Cert.KernelArrays

end
-- ==== Proof.KernelRun.lean ====
/-
  The idealized kernel's run: it ends with every row of the result at the pooled value, and the arguments unchanged.
-/
module

public import proofs.«01_k».proof.Proof.KernelArrays
public import Idealize.ShloMosaic.Lib.StableHlo.Run

@[expose] public section

set_option maxRecDepth 16384

noncomputable section

namespace Cert.KernelRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelArrays Cert.KernelBlock Cert.Spec

/-- The resource algebra of the run. -/
local notation "𝕄" => MT nD τ sig Unit (Elt Ideal) ℕ (UR sig nD τ) ℕ

variable (m : (ℓ : Loc nD τ sig) → Buf (Elt Ideal) ℓ) (ρ : Dev nD → PrngReg) (c : Dev nD)

/-! ## The operations before the first launch -/

/-- The position rows are the first 200 rows of the table. -/
theorem pos_eq : V1 m ρ c main_call0_v0
    = extractStridedSlice S200x128 ![0, 0] (m ((c : Thread nD τ).loc main_arg2)) slices_S10000x128_S200x128_0_0 := by
  show StableHlo.after hostOps0 (W0 m ρ c) (Proc.devRef .tc main_call0_v0) = _
  after_results_simp
  rfl

/-- The scorer's first bias as a one-row matrix. -/
theorem b1i_eq : V1 m ρ c main_call0_v1 = shapeCast S1x512 (m ((c : Thread nD τ).loc main_arg4)) shapeCasts_S512_S1x512 := by
  show StableHlo.after hostOps0 (W0 m ρ c) (Proc.devRef .tc main_call0_v1) = _
  after_results_simp
  rfl

/-- The encoder's first bias as a one-row matrix. -/
theorem b1e_eq : V1 m ρ c main_call0_v2 = shapeCast S1x512 (m ((c : Thread nD τ).loc main_arg8)) shapeCasts_S512_S1x512 := by
  show StableHlo.after hostOps0 (W0 m ρ c) (Proc.devRef .tc main_call0_v2) = _
  after_results_simp
  rfl

/-- The encoder's second bias as a one-row matrix. -/
theorem b2e_eq : V1 m ρ c main_call0_v3 = shapeCast S1x128 (m ((c : Thread nD τ).loc main_arg10)) shapeCasts_S128_S1x128 := by
  show StableHlo.after hostOps0 (W0 m ρ c) (Proc.devRef .tc main_call0_v3) = _
  after_results_simp
  rfl

/-- The position rows at an index. -/
theorem pos_apply (l : Fin 200) (d : Fin 128) :
    V1 m ρ c main_call0_v0 (ix2 l d) = m ((c : Thread nD τ).loc main_arg2) (ix2 ⟨l, by omega⟩ d) := by
  rw [pos_eq]
  refine congrArg (m ((c : Thread nD τ).loc main_arg2)) (funext fun a => Fin.ext ?_)
  fin_cases a
  · show 0 + (l : Nat) = l; omega
  · show 0 + (d : Nat) = d; omega

/-- A vector of 512 read as a one-row matrix. -/
theorem row512_apply (x : Vec Ideal S512 .f32) (h : Fin 512) :
    shapeCast S1x512 x shapeCasts_S512_S1x512 (ix2 0 h) = x (ix1 h) := by
  pointwise

/-- A vector of 128 read as a one-row matrix. -/
theorem row128_apply (x : Vec Ideal S128 .f32) (o : Fin 128) :
    shapeCast S1x128 x shapeCasts_S128_S1x128 (ix2 0 o) = x (ix1 o) := by
  pointwise

/-! ## The boundaries after the first launch -/

/-- The scorer's position array at an index. -/
theorem posImp_eq (l : Fin 200) (h : Fin 512) : V2 m ρ c main_call0_v4_0 (ix2 l h)
    = ∑ d : Fin 128, @HMul.hMul EReal EReal EReal _ (m ((c : Thread nD τ).loc main_arg2) (ix2 ⟨l, by omega⟩ d))
        (m ((c : Thread nD τ).loc main_arg3) (ix2 ⟨128 + d, by omega⟩ h)) := by
  have e : V2 m ρ c main_call0_v4_0 = (dat0 (V1 m ρ) c).arrAt 4 cfg0.N := W2_arr m ρ c 4
  rw [e, arr0_4]
  refine (out0_4_apply _ _ _ _ l h).trans ?_
  exact Finset.sum_congr rfl fun d _ => congrArg₂ _ (pos_apply m ρ c l d)
    (congrFun (W1_args m ρ c main_arg3 (by decide)) _)

/-- The encoder's position array at an index, its bias included. -/
theorem posEnc_eq (l : Fin 200) (h : Fin 512) : V2 m ρ c main_call0_v4_1 (ix2 l h)
    = @HAdd.hAdd EReal EReal EReal _ (∑ d : Fin 128, @HMul.hMul EReal EReal EReal _
          (m ((c : Thread nD τ).loc main_arg2) (ix2 ⟨l, by omega⟩ d))
          (m ((c : Thread nD τ).loc main_arg7) (ix2 ⟨128 + d, by omega⟩ h)))
        (m ((c : Thread nD τ).loc main_arg8) (ix1 h)) := by
  have e : V2 m ρ c main_call0_v4_1 = (dat0 (V1 m ρ) c).arrAt 5 cfg0.N := W2_arr m ρ c 5
  rw [e, arr0_5]
  refine (out0_5_apply _ _ _ _ l h).trans ?_
  exact congrArg₂ _ (Finset.sum_congr rfl fun d _ => congrArg₂ _ (pos_apply m ρ c l d)
    (congrFun (W1_args m ρ c main_arg7 (by decide)) _)) ((congrFun (b1e_eq m ρ c) _).trans (row512_apply _ h))

/-- An argument array at the second launch's entry is the argument. -/
theorem V2_arg (a : Ref sig .tc) (ha : a ∈ argRefs) : V2 m ρ c a = m ((c : Thread nD τ).loc a) := W2_args m ρ c a ha

/-- The scorer's first bias at the second launch's entry. -/
theorem V2_b1i (h : Fin 512) : V2 m ρ c main_call0_v1 (ix2 0 h) = m ((c : Thread nD τ).loc main_arg4) (ix1 h) := by
  rw [show V2 m ρ c main_call0_v1 = V1 m ρ c main_call0_v1 from W2_of_ne m ρ c main_call0_v1 (by decide), b1i_eq]
  exact row512_apply _ h

/-- The encoder's second bias at the second launch's entry. -/
theorem V2_b2e (o : Fin 128) : V2 m ρ c main_call0_v3 (ix2 0 o) = m ((c : Thread nD τ).loc main_arg10) (ix1 o) := by
  rw [show V2 m ρ c main_call0_v3 = V1 m ρ c main_call0_v3 from W2_of_ne m ρ c main_call0_v3 (by decide), b2e_eq]
  exact row128_apply _ o

/-- The result from the launch memory. -/
abbrev res (c : Dev nD) : A2 1024 128 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) (m ((c : Thread nD τ).loc main_arg8)) (m ((c : Thread nD τ).loc main_arg9))
    (m ((c : Thread nD τ).loc main_arg10))

/-- The result array after the second launch is the result. -/
theorem value : W3 m ρ c (Proc.devRef .tc main_v0) = res m c := by
  refine (W3_arr m ρ c 10).trans ((arr1_10 (V2 m ρ) c).trans (funext fun i => ?_))
  show rowAt (V2 m ρ) c (i 0) (i 1) = result _ _ _ _ _ _ _ _ _ _ i
  have hI : (fun (l : Fin 200) (h : Fin 512) => @HAdd.hAdd EReal EReal EReal _ (V2 m ρ c main_call0_v4_0 (ix2 l h))
        (V2 m ρ c main_call0_v1 (ix2 0 h))) = _ :=
    funext fun l => funext fun h => congrArg₂ (@HAdd.hAdd EReal EReal EReal _) (posImp_eq m ρ c l h) (V2_b1i m ρ c h)
  have hE : (fun (l : Fin 200) (h : Fin 512) => V2 m ρ c main_call0_v4_1 (ix2 l h)) = _ :=
    funext fun l => funext fun h => posEnc_eq m ρ c l h
  have hB : (fun o : Fin 128 => V2 m ρ c main_call0_v3 (ix2 0 o)) = _ := funext fun o => V2_b2e m ρ c o
  unfold rowAt
  rw [hI, hE, hB, V2_arg m ρ c main_arg0 (by decide), V2_arg m ρ c main_arg1 (by decide),
    V2_arg m ρ c main_arg3 (by decide), V2_arg m ρ c main_arg5 (by decide), V2_arg m ρ c main_arg7 (by decide),
    V2_arg m ρ c main_arg9 (by decide)]
  rfl

/-! ## The run -/

/-- The idealized kernel runs to its end, with the result in its result array and every argument array unchanged. -/
theorem run : θ_run defs (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v0 (by decide))).trans (value m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Cert.KernelRun

end
-- ==== Proof.RefStages.lean ====
/-
  The reference's result as a composition of named stages: the position rows taken from the table, the features (a row's
  sequence beside the positions), the masked scores, the sorted indices of the fifty greatest, the features picked at
  them, and the encoder with its mean.
-/
module

public import proofs.«01_k».proof.Proof.Gen.ReferenceIdeal.Run

@[expose] public section

set_option maxRecDepth 16384

noncomputable section

namespace Cert.RefStages

open Cert.ReferenceIdeal Cert.ReferenceIdeal.Gen Cert.ReferenceIdeal.Value Idealize.ShloMosaic Idealize.ShloMosaic.TcCoe

variable {F : FTy → Type} [FloatOps F]

/-- The positions 0, 1, …, 199 held between 0 and 9999. -/
def positions : IVec S200 32 :=
  minsi (broadcastInDim S200 ![] bcast_S_S200 (constantI S_ 32 9999#32))
    (maxsi (broadcastInDim S200 ![] bcast_S_S200 (constantI S_ 32 0#32)) (iotaInDim S200 32 0))

/-- The positions as start indices, a negative one counted from the table's end. -/
def starts : IVec S200x1 32 :=
  broadcastInDim S200x1 ![0] bcast_S200_S200x1_0
    (select (cmpi .slt positions (broadcastInDim S200 ![] bcast_S_S200 (constantI S_ 32 0#32)))
      (addi positions (broadcastInDim S200 ![] bcast_S_S200 (constantI S_ 32 10000#32))) positions)

/-- Which start indices lie inside the table. -/
def startsIn : IVec S200x1 1 :=
  andi (cmpi .sge starts (broadcastInDim S200x1 ![] bcast_S_S200x1 (constantI S_ 32 0#32)))
    (cmpi .sle starts (broadcastInDim S200x1 ![0, 1] bcast_S1x1_S200x1_0_1
      (broadcastInDim S1x1 ![1] bcast_S1_S1x1_1 (constantI S1 32 9999#32))))

/-- The table's rows at the positions. -/
def posRows (pos : FVec F S10000x128 .f32) : FVec F S200x128 .f32 :=
  select (broadcastInDim S200x128 ![0] bcast_S200_S200x128_0
      (Host.reduce IntOp.andi startsIn (constantI S_ 1 1#1) reducesTo_S200x1_S200_d1 h_S_))
    (Host.gather gather_S10000x128_S200x1_S200x128_1_0_n_n_0_1_1128 pos starts)
    (broadcastInDim S200x128 ![] bcast_S_S200x128 (constant S_ .f32 0x7FC00000#32))

/-- The features: every row's sequence beside the position rows. -/
def feats (seq : FVec F S1024x200x128 .f32) (rows : FVec F S200x128 .f32) : FVec F S1024x200x256 .f32 :=
  fn_main_v5 seq (broadcastInDim S1024x200x128 ![0, 1, 2] bcast_S1x200x128_S1024x200x128_0_1_2
    (broadcastInDim S1x200x128 ![1, 2] bcast_S200x128_S1x200x128_1_2 rows))

/-- The importance scores, the mask's value at masked positions. -/
def scores (x : FVec F S1024x200x256 .f32) (mask : IVec S1024x200 32) (W1 : FVec F S256x512 .f32) (b1 : FVec F S512 .f32)
    (w : FVec F S512x1 .f32) (b : FVec F S1 .f32) : FVec F S1024x200 .f32 :=
  select (cmpi .eq mask (broadcastInDim S1024x200 ![] bcast_S_S1024x200 (constantI S_ 32 0#32)))
    (broadcastInDim S1024x200 ![] bcast_S_S1024x200 (constant S_ .f32 0xCE6E6B28#32))
    (shapeCast S1024x200 (addf (Host.dotGeneral dot_S1024x200x512_S512x1_S1024x200x1_2_0_01_1_n_n none
        (maximumf (addf (Host.dotGeneral dot_S1024x200x256_S256x512_S1024x200x512_2_0_01_1_n_n none x W1)
            (broadcastInDim S1024x200x512 ![0, 1, 2] bcast_S1x1x512_S1024x200x512_0_1_2
              (broadcastInDim S1x1x512 ![2] bcast_S512_S1x1x512_2 b1)))
          (broadcastInDim S1024x200x512 ![] bcast_S_S1024x200x512 (constant S_ .f32 0x00000000#32))) w)
      (broadcastInDim S1024x200x1 ![0, 1, 2] bcast_S1x1x1_S1024x200x1_0_1_2
        (broadcastInDim S1x1x1 ![2] bcast_S1_S1x1x1_2 b))) shapeCasts_S1024x200x1_S1024x200)

/-- The positions of the fifty greatest scores of each row, greatest first. -/
def topIdx (s : FVec F S1024x200 .f32) : IVec S1024x50 32 :=
  (Host.topK S1024x50 1 (FloatOps.cmpfTotal .gt) s sliceFits_S1024x200_S1024x50).2

/-- The same positions in increasing order, as one column. -/
def sorted (i : IVec S1024x50 32) : IVec S1024x50x1 32 :=
  broadcastInDim S1024x50x1 ![0, 1] bcast_S1024x50_S1024x50x1_0_1 (Host.sort S1024x50 1 comparator_i32_d1 i)

/-- A negative index counted from the end of the row. -/
def wrapped (i : IVec S1024x50x1 32) : IVec S1024x50x1 32 :=
  select (cmpi .slt i (broadcastInDim S1024x50x1 ![] bcast_S_S1024x50x1 (constantI S_ 32 0#32)))
    (addi i (broadcastInDim S1024x50x1 ![] bcast_S_S1024x50x1 (constantI S_ 32 200#32))) i

/-- Which indices lie inside the row. -/
def wrappedIn (i : IVec S1024x50x1 32) : IVec S1024x50x1 1 :=
  andi (cmpi .sge i (broadcastInDim S1024x50x1 ![] bcast_S_S1024x50x1 (constantI S_ 32 0#32)))
    (cmpi .sle i (broadcastInDim S1024x50x1 ![0, 1, 2] bcast_S1x1x1_S1024x50x1_0_1_2
      (broadcastInDim S1x1x1 ![2] bcast_S1_S1x1x1_2 (constantI S1 32 199#32))))

/-- The features at the given indices of each row. -/
def picked (x : FVec F S1024x200x256 .f32) (i : IVec S1024x50x1 32) : FVec F S1024x50x256 .f32 :=
  select (broadcastInDim S1024x50x256 ![0, 1] bcast_S1024x50_S1024x50x256_0_1
      (Host.reduce IntOp.andi (wrappedIn i) (constantI S_ 1 1#1) reducesTo_S1024x50x1_S1024x50_d2 h_S_))
    (Host.gather gather_S1024x200x256_S1024x50x1_S1024x50x256_2_1_0_0_1_2_11256 x i)
    (broadcastInDim S1024x50x256 ![] bcast_S_S1024x50x256 (constant S_ .f32 0x7FC00000#32))

/-- The mean over the fifty picked positions of their encodings. -/
def pooled (x : FVec F S1024x50x256 .f32) (We : FVec F S256x512 .f32) (be : FVec F S512 .f32)
    (W2 : FVec F S512x128 .f32) (b2 : FVec F S128 .f32) : FVec F S1024x128 .f32 :=
  Host.divf (Host.reduceAdd (addf (Host.dotGeneral dot_S1024x50x512_S512x128_S1024x50x128_2_0_01_1_n_n none
        (maximumf (addf (Host.dotGeneral dot_S1024x50x256_S256x512_S1024x50x512_2_0_01_1_n_n none x We)
            (broadcastInDim S1024x50x512 ![0, 1, 2] bcast_S1x1x512_S1024x50x512_0_1_2
              (broadcastInDim S1x1x512 ![2] bcast_S512_S1x1x512_2 be)))
          (broadcastInDim S1024x50x512 ![] bcast_S_S1024x50x512 (constant S_ .f32 0x00000000#32))) W2)
      (broadcastInDim S1024x50x128 ![0, 1, 2] bcast_S1x1x128_S1024x50x128_0_1_2
        (broadcastInDim S1x1x128 ![2] bcast_S128_S1x1x128_2 b2)))
      (constant S_ .f32 0x00000000#32) reducesTo_S1024x50x128_S1024x128_d1 h_S_)
    (broadcastInDim S1024x128 ![] bcast_S_S1024x128 (constant S_ .f32 0x42480000#32))

/-- All stages together. -/
def whole (seq : FVec F S1024x200x128 .f32) (mask : IVec S1024x200 32) (pos : FVec F S10000x128 .f32)
    (W1 : FVec F S256x512 .f32) (b1 : FVec F S512 .f32) (w : FVec F S512x1 .f32) (b : FVec F S1 .f32)
    (We : FVec F S256x512 .f32) (be : FVec F S512 .f32) (W2 : FVec F S512x128 .f32) (b2 : FVec F S128 .f32) :
    FVec F S1024x128 .f32 :=
  pooled (picked (feats seq (posRows pos)) (wrapped (sorted (topIdx (scores (feats seq (posRows pos)) mask W1 b1 w b)))))
    We be W2 b2

/-- The reference's result is the stages' composition on its argument arrays. -/
theorem res_eq (m : (ℓ : Loc nD τ sig) → Buf (Elt F) ℓ) (c : Dev nD) : res_out0 m c
    = whole (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) := by
  unfold res_out0 res_main_v35 whole pooled picked wrappedIn wrapped sorted topIdx scores feats posRows startsIn starts
    positions
  rfl

end Cert.RefStages

end
-- ==== Proof.RefIndex.lean ====
/-
  The reference's index stages, read at an index: the taken table rows, the positions of the greatest scores, the sort of
  them, and the features picked at them.
-/
module

public import proofs.«01_k».proof.Proof.RefStages
public import proofs.«01_k».proof.Proof.Select
public import Idealize.ShloMosaic.Lib.Pointwise

@[expose] public section

set_option maxRecDepth 16384

noncomputable section

namespace Cert.RefIndex

open Cert.ReferenceIdeal Cert.ReferenceIdeal.Gen Idealize.ShloMosaic Idealize.ShloMosaic.TcCoe Cert.RefStages

variable {F : FTy → Type} [FloatOps F]

/-! ## Two operations -/

/-- The conjunction of bits that are all set is set. -/
theorem reduce_andi {s t u : Shape} {axes : List (Fin s.rank)} (x : IVec s 1) (v : IVec u 1) (h : s.ReducesTo axes t)
    (hu : 0 < u.numel) (hv : ∀ i, v i = 1#1) (hx : ∀ i, x i = 1#1) (j : t.Idx) :
    Host.reduce IntOp.andi x v h hu j = 1#1 := by
  unfold Host.reduce
  rw [hv]
  generalize (List.finRange s.numel).filter _ = l
  induction l with
  | nil => rfl
  | cons a l ih => rw [List.foldl_cons, hx]; exact ih

/-- A sort along an existing axis reads its operand along that axis at the sorted position. -/
theorem sort_apply {α : Type} (s : Shape) (d : Nat) (hd : d < s.rank) (cmp : α → α → BitVec 1) (x : s.Idx → α) (j : s.Idx) :
    Host.sort s d cmp x j
      = x (j.along ⟨d, hd⟩ (sortedFrom (fun k k' => cmp (x (j.along ⟨d, hd⟩ k)) (x (j.along ⟨d, hd⟩ k')) == 1#1) (j ⟨d, hd⟩))) := by
  unfold Host.sort
  rw [dif_pos hd]

/-- A sort of two operands reads the second along the axis at the same position as the first. -/
theorem sort2_apply {α β : Type} (s : Shape) (d : Nat) (hd : d < s.rank) (cmp : α × β → α × β → BitVec 1) (x : s.Idx → α)
    (y : s.Idx → β) (j : s.Idx) :
    (Host.sort2 s d cmp x y).2 j
      = y (j.along ⟨d, hd⟩ (sortedFrom (fun k k' => cmp (x (j.along ⟨d, hd⟩ k), y (j.along ⟨d, hd⟩ k))
          (x (j.along ⟨d, hd⟩ k'), y (j.along ⟨d, hd⟩ k')) == 1#1) (j ⟨d, hd⟩))) := by
  unfold Host.sort2
  rw [dif_pos hd]

/-- The positions a selection of the greatest gives are those of the sort, from the first on. -/
theorem topK_apply {α : Type} {s t : Shape} (d : Nat) (hd : d < s.rank) (gt : α → α → BitVec 1) (x : s.Idx → α)
    (h : s.Slices (fun _ => 0) t) (j : t.Idx) (i : s.Idx) (hi : ∀ a, (i a : Nat) = j (a.cast h.1.symm)) :
    (Host.topK t d gt x h).2 j
      = BitVec.ofNat 32 (sortedFrom (fun k k' => gt (x (i.along ⟨d, hd⟩ k)) (x (i.along ⟨d, hd⟩ k')) == 1#1) (i ⟨d, hd⟩)) := by
  have e : (fun a => ⟨0 + (j (a.cast h.1.symm)).val, Nat.lt_of_lt_of_le (Nat.add_lt_add_left (j _).isLt _) (h.2 a)⟩ : s.Idx) = i :=
    funext fun a => Fin.ext (by show 0 + (j (a.cast h.1.symm)).val = i a; rw [hi, Nat.zero_add])
  unfold Host.topK extractStridedSlice
  dsimp only
  rw [e, sort2_apply s d hd, dif_pos hd]
  show BitVec.ofNat 32 (Shape.Idx.along i ⟨d, hd⟩ _ ⟨d, hd⟩ : Nat) = _
  rw [Shape.Idx.along, Function.update_self]

/-- Taking rows of the table: at a start index inside the table, row `l` of the result is the table's row there. -/
theorem take_apply {α : Type} (x : S10000x128.Idx → α) (i : IVec S200x1 32) (l : Fin 200) (d : Fin 128) (p : Fin 10000)
    (hi : (i (ix2 l 0)).toInt.toNat = p) :
    Host.gather gather_S10000x128_S200x1_S200x128_1_0_n_n_0_1_1128 x i (ix2 l d) = x (ix2 p d) := by
  unfold Host.gather
  refine congrArg x (funext fun a => Fin.ext ?_)
  have e : GatherDims.siIdx gather_S10000x128_S200x1_S200x128_1_0_n_n_0_1_1128 (ix2 l d) ⟨0, by decide⟩ = ix2 l 0 := by
    funext b; fin_cases b <;> rfl
  fin_cases a
  · show min (i (GatherDims.siIdx gather_S10000x128_S200x1_S200x128_1_0_n_n_0_1_1128 (ix2 l d) ⟨0, _⟩)).toInt.toNat
      (10000 - 1) + 0 + 0 = p
    rw [e, hi]; omega
  · show 0 + 0 + (d : Nat) = d
    omega

/-- Picking positions of each row: at an index inside the row, entry `k` of row `b` is the row's entry there. -/
theorem pick_apply {α : Type} (x : S1024x200x256.Idx → α) (i : IVec S1024x50x1 32) (b : Fin 1024) (k : Fin 50) (e : Fin 256)
    (p : Fin 200) (hi : (i (ix3 b k 0)).toInt.toNat = p) :
    Host.gather gather_S1024x200x256_S1024x50x1_S1024x50x256_2_1_0_0_1_2_11256 x i (ix3 b k e) = x (ix3 b p e) := by
  unfold Host.gather
  refine congrArg x (funext fun a => Fin.ext ?_)
  have hs : GatherDims.siIdx gather_S1024x200x256_S1024x50x1_S1024x50x256_2_1_0_0_1_2_11256 (ix3 b k e) ⟨0, by decide⟩
      = ix3 b k 0 := by
    funext b; fin_cases b <;> rfl
  fin_cases a
  · show 0 + (b : Nat) + 0 = b
    omega
  · show min (i (GatherDims.siIdx gather_S1024x200x256_S1024x50x1_S1024x50x256_2_1_0_0_1_2_11256 (ix3 b k e) ⟨0, _⟩)).toInt.toNat
      (200 - 1) + 0 + 0 = p
    rw [hs, hi]; omega
  · show 0 + 0 + (e : Nat) = e
    omega

/-! ## The position rows -/

/-- Position `l` as a start index is the word `l`. -/
theorem starts_apply (l : Fin 200) : starts (ix2 l 0) = BitVec.ofNat 32 l := by
  have h : ∀ l : Fin 200, Scalar.select (IntOp.cmpi .slt (IntOp.minsi 9999#32 (IntOp.maxsi 0#32 (BitVec.ofNat 32 l))) 0#32)
      (IntOp.addi (IntOp.minsi 9999#32 (IntOp.maxsi 0#32 (BitVec.ofNat 32 l))) 10000#32)
      (IntOp.minsi 9999#32 (IntOp.maxsi 0#32 (BitVec.ofNat 32 l))) = BitVec.ofNat 32 l := by decide +kernel
  exact h l

/-- Every start index lies inside the table. -/
theorem startsIn_apply (i : S200x1.Idx) : startsIn i = 1#1 := by
  obtain ⟨l, z, rfl⟩ : ∃ (l : Fin 200) (z : Fin 1), i = ix2 l z := ⟨i 0, i 1, eq_ix2 i⟩
  obtain rfl : z = 0 := Subsingleton.elim _ _
  have h : ∀ l : Fin 200, IntOp.andi (IntOp.cmpi .sge (BitVec.ofNat 32 l) 0#32) (IntOp.cmpi .sle (BitVec.ofNat 32 l) 9999#32)
      = 1#1 := by decide +kernel
  show IntOp.andi (IntOp.cmpi .sge (starts (ix2 l 0)) 0#32) (IntOp.cmpi .sle (starts (ix2 l 0)) 9999#32) = 1#1
  rw [starts_apply]
  exact h l

/-- The position rows are the table's first 200 rows. -/
theorem posRows_apply (pos : FVec F S10000x128 .f32) (l : Fin 200) (d : Fin 128) :
    posRows pos (ix2 l d) = pos (ix2 ⟨l, by omega⟩ d) := by
  have hr : Host.reduce IntOp.andi startsIn (constantI S_ 1 1#1) reducesTo_S200x1_S200_d1 h_S_ = fun _ => 1#1 :=
    funext fun j => reduce_andi _ _ _ _ (fun _ => rfl) startsIn_apply j
  have h : ∀ l : Fin 200, (BitVec.ofNat 32 l).toInt.toNat = l := by decide +kernel
  unfold posRows
  rw [hr]
  exact take_apply pos starts l d ⟨l, by omega⟩ (by rw [starts_apply]; exact h l)

/-! ## The picked features -/

/-- At indices that are positions of the row, the picked features are the features at those positions. -/
theorem picked_apply (x : FVec F S1024x200x256 .f32) (i : IVec S1024x50x1 32) (p : Fin 1024 → Fin 50 → Fin 200)
    (hi : ∀ b k, i (ix3 b k 0) = BitVec.ofNat 32 (p b k)) (b : Fin 1024) (k : Fin 50) (e : Fin 256) :
    picked x (wrapped i) (ix3 b k e) = x (ix3 b (p b k) e) := by
  have hw : ∀ b k, wrapped i (ix3 b k 0) = BitVec.ofNat 32 (p b k) := fun b k => by
    have h : ∀ l : Fin 200, Scalar.select (IntOp.cmpi .slt (BitVec.ofNat 32 l) 0#32)
      (IntOp.addi (BitVec.ofNat 32 l) 200#32) (BitVec.ofNat 32 l) = BitVec.ofNat 32 l := by decide +kernel
    show Scalar.select (IntOp.cmpi .slt (i (ix3 b k 0)) 0#32) (IntOp.addi (i (ix3 b k 0)) 200#32) (i (ix3 b k 0)) = _
    rw [hi]
    exact h _
  have hin : ∀ j, wrappedIn (wrapped i) j = 1#1 := fun j => by
    obtain ⟨b, k, z, rfl⟩ : ∃ (b : Fin 1024) (k : Fin 50) (z : Fin 1), j = ix3 b k z := ⟨j 0, j 1, j 2, eq_ix3 j⟩
    obtain rfl : z = 0 := Subsingleton.elim _ _
    have h : ∀ l : Fin 200, IntOp.andi (IntOp.cmpi .sge (BitVec.ofNat 32 l) 0#32) (IntOp.cmpi .sle (BitVec.ofNat 32 l) 199#32)
      = 1#1 := by decide +kernel
    show IntOp.andi (IntOp.cmpi .sge (wrapped i (ix3 b k 0)) 0#32) (IntOp.cmpi .sle (wrapped i (ix3 b k 0)) 199#32) = 1#1
    rw [hw]
    exact h _
  have hr : Host.reduce IntOp.andi (wrappedIn (wrapped i)) (constantI S_ 1 1#1) reducesTo_S1024x50x1_S1024x50_d2 h_S_
      = fun _ => 1#1 := funext fun j => reduce_andi _ _ _ _ (fun _ => rfl) hin j
  have h : ∀ l : Fin 200, (BitVec.ofNat 32 l).toInt.toNat = l := by decide +kernel
  unfold picked
  rw [hr]
  exact pick_apply x (wrapped i) b k e (p b k) (by rw [hw]; exact h _)

/-! ## The selected positions -/

/-- The order the reference's selection sorts a row by: a key goes before a smaller one. -/
def before (s : FVec F S1024x200 .f32) (b : Fin 1024) (p q : Fin 200) : Bool :=
  FloatOps.cmpfTotal .gt (s (ix2 b p)) (s (ix2 b q)) == 1#1

/-- The `k`-th selected position of a row is the `k`-th of the sorted row. -/
theorem topIdx_apply (s : FVec F S1024x200 .f32) (b : Fin 1024) (k : Fin 50) :
    topIdx s (ix2 b k) = BitVec.ofNat 32 (sortedFrom (before s b) (k.castLE (by omega))) := by
  have hk : (50 : Nat) ≤ 200 := by decide
  have hu : ∀ q : Fin 200, Shape.Idx.along (ix2 b (k.castLE hk) : S1024x200.Idx) 1 q = ix2 b q := fun q => by
    funext a; fin_cases a <;> rfl
  refine (topK_apply 1 (by decide) (FloatOps.cmpfTotal .gt) s sliceFits_S1024x200_S1024x50 (ix2 b k) (ix2 b (k.castLE hk))
    (fun a => by fin_cases a <;> rfl)).trans ?_
  have hf : (fun p q : Fin 200 => FloatOps.cmpfTotal .gt (s (Shape.Idx.along (ix2 b (k.castLE hk) : S1024x200.Idx) 1 p))
      (s (Shape.Idx.along (ix2 b (k.castLE hk) : S1024x200.Idx) 1 q)) == 1#1) = before s b :=
    funext fun p => funext fun q => by rw [hu, hu]; rfl
  exact congrArg (fun r => BitVec.ofNat 32 (sortedFrom r (k.castLE hk) : Nat)) hf

/-- Sorting the indices of a row reorders them. -/
theorem sorted_apply (i : IVec S1024x50 32) (b : Fin 1024) : ∃ σ : Fin 50 → Fin 50, Function.Bijective σ ∧
    ∀ k, sorted i (ix3 b k 0) = i (ix2 b (σ k)) := by
  have hu : ∀ k q : Fin 50, Shape.Idx.along (ix2 b k : S1024x50.Idx) 1 q = ix2 b q := fun k q => by
    funext a; fin_cases a <;> rfl
  refine ⟨sortedFrom (fun k k' => comparator_i32_d1 (i (ix2 b k)) (i (ix2 b k')) == 1#1),
    ⟨sortedFrom_injective _, sortedFrom_surjective _⟩, fun k => ?_⟩
  have hf : (fun p q : Fin 50 => comparator_i32_d1 (i (Shape.Idx.along (ix2 b k : S1024x50.Idx) 1 p))
      (i (Shape.Idx.along (ix2 b k : S1024x50.Idx) 1 q)) == 1#1)
      = fun k k' => comparator_i32_d1 (i (ix2 b k)) (i (ix2 b k')) == 1#1 :=
    funext fun p => funext fun q => by rw [hu, hu]
  have hb : sorted i (ix3 b k 0) = Host.sort S1024x50 1 comparator_i32_d1 i (ix2 b k) := by
    unfold sorted
    generalize Host.sort S1024x50 1 comparator_i32_d1 i = y
    pointwise
  rw [hb, sort_apply S1024x50 1 (by decide)]
  refine (congrArg i (hu k _)).trans ?_
  exact congrArg (fun r => i (ix2 b (sortedFrom r k))) hf

end Cert.RefIndex

end
-- ==== Proof.RefValue.lean ====
/-
  The reference's result at an index, the scorer's second bias being zero.
-/
module

public import proofs.«01_k».proof.Proof.RefIndex
public import proofs.«01_k».proof.Proof.Spec
public import proofs.«01_k».proof.Proof.Algebra
public import proofs.«01_k».proof.Proof.Consts
public import Idealize.ShloMosaic.Lib.StableHlo.Predicate

@[expose] public section

set_option maxRecDepth 16384

noncomputable section

namespace Cert.RefValue

open Cert.ReferenceIdeal Cert.ReferenceIdeal.Gen Cert.ReferenceIdeal.Value Idealize.ShloMosaic Idealize.ShloMosaic.TcCoe
open Cert.RefStages Cert.RefIndex Cert.Spec Cert.Select

/-- The selection's order is the order of the keys, greatest first. -/
theorem before_iff (s : FVec Ideal S1024x200 .f32) (b : Fin 1024) (p q : Fin 200) :
    before s b p q = true ↔ s (ix2 b q) < s (ix2 b p) := by
  unfold before
  rw [beq_iff_eq]
  show BitVec.ofBool (decide (s (ix2 b q) < s (ix2 b p))) = 1#1 ↔ _
  by_cases h : s (ix2 b q) < s (ix2 b p) <;> simp [h]

/-- The features times a weight: the sequence part and the position part. -/
theorem feats_mul (seq : FVec Ideal S1024x200x128 .f32) (rows : FVec Ideal S200x128 .f32) (W : FVec Ideal S256x512 .f32)
    (b : Fin 1024) (l : Fin 200) (h : Fin 512) :
    (∑ e : Fin 256, feats seq rows (ix3 b l e) * W (ix2 e h))
      = (∑ d : Fin 128, seq (ix3 b l d) * W (ix2 ⟨d, by omega⟩ h))
        + ∑ d : Fin 128, rows (ix2 l d) * W (ix2 ⟨128 + d, by omega⟩ h) := by
  pointwise [feats, fn_main_v5]

/-- One hidden unit from the features: the rectified affine image of a position's features and position vector. -/
theorem hidden_eq (seq : FVec Ideal S1024x200x128 .f32) (pos : FVec Ideal S10000x128 .f32) (W : FVec Ideal S256x512 .f32)
    (bias : FVec Ideal S512 .f32) (b : Fin 1024) (l : Fin 200) (h : Fin 512) :
    max ((∑ e : Fin 256, feats seq (posRows pos) (ix3 b l e) * W (ix2 e h)) + bias (ix1 h)) 0
      = Spec.hidden (fun d => seq (ix3 b l d)) (fun d => pos (ix2 ⟨l, by omega⟩ d)) W bias h := by
  rw [feats_mul, add_assoc]
  simp only [posRows_apply]
  rfl

/-- The masked scores, the second bias being zero: the keys of the row. -/
theorem scores_apply (seq : FVec Ideal S1024x200x128 .f32) (pos : FVec Ideal S10000x128 .f32) (mask : IVec S1024x200 32)
    (W1 : FVec Ideal S256x512 .f32) (b1 : FVec Ideal S512 .f32) (w : FVec Ideal S512x1 .f32) (β : FVec Ideal S1 .f32)
    (hβ : β (ix1 0) = 0) (b : Fin 1024) (l : Fin 200) :
    scores (feats seq (posRows pos)) mask W1 b1 w β (ix2 b l)
      = keys (fun l d => seq (ix3 b l d)) (fun l d => pos (ix2 ⟨l, by omega⟩ d)) (fun l => mask (ix2 b l)) W1 b1 w l := by
  generalize hx : feats seq (posRows pos) = x
  pointwise [scores]
  subst hx
  rw [hβ, add_zero]
  simp only [hidden_eq]
  unfold keys maskScore score Scalar.select
  by_cases h : mask (ix2 b l) = 0#32
  · rw [if_pos h, h]; rfl
  · rw [if_neg h, if_neg (fun e : IntOp.cmpi .eq (mask (ix2 b l)) 0#32 = 1 => h (StableHlo.Predicate.cmpi_eq_iff.1 e))]

/-- The mean of the encodings of fifty picked positions. -/
theorem pooled_apply (x : FVec Ideal S1024x50x256 .f32) (We : FVec Ideal S256x512 .f32) (be : FVec Ideal S512 .f32)
    (W2 : FVec Ideal S512x128 .f32) (b2 : FVec Ideal S128 .f32) (b : Fin 1024) (o : Fin 128) :
    pooled x We be W2 b2 (ix2 b o)
      = (∑ k : Fin 50, ((∑ h : Fin 512, max ((∑ e : Fin 256, x (ix3 b k e) * We (ix2 e h)) + be (ix1 h)) 0 * W2 (ix2 h o))
          + b2 (ix1 o))) * ((1 / 50 : ℝ) : EReal) := by
  rw [← Ideal.div_coe (by norm_num : (50 : ℝ) ≠ 0), ← Consts.ofBits_fifty]
  pointwise [pooled]

/-- The reference's stages together, the scorer's second bias being zero: the result. -/
theorem whole_eq (seq : FVec Ideal S1024x200x128 .f32) (mask : IVec S1024x200 32) (pos : FVec Ideal S10000x128 .f32)
    (W1 : FVec Ideal S256x512 .f32) (b1 : FVec Ideal S512 .f32) (w : FVec Ideal S512x1 .f32) (β : FVec Ideal S1 .f32)
    (We : FVec Ideal S256x512 .f32) (be : FVec Ideal S512 .f32) (W2 : FVec Ideal S512x128 .f32) (b2 : FVec Ideal S128 .f32)
    (hβ : β (ix1 0) = 0) :
    whole seq mask pos W1 b1 w β We be W2 b2 = result seq mask pos W1 b1 w We be W2 b2 := by
  funext i
  obtain ⟨b, o, rfl⟩ : ∃ (b : Fin 1024) (o : Fin 128), i = ix2 b o := ⟨i 0, i 1, eq_ix2 i⟩
  have hk : (50 : Nat) ≤ 200 := by decide
  let s := scores (feats seq (posRows pos)) mask W1 b1 w β
  have hs : ∀ b, (fun l => s (ix2 b l)) = keys (fun l d => seq (ix3 b l d)) (fun l d => pos (ix2 ⟨l, by omega⟩ d))
      (fun l => mask (ix2 b l)) W1 b1 w := fun b => funext fun l => scores_apply seq pos mask W1 b1 w β hβ b l
  choose σ hσ hi using fun b => sorted_apply (topIdx s) b
  have hp : ∀ b k, sorted (topIdx s) (ix3 b k 0) = BitVec.ofNat 32 (sortedFrom (before s b) ((σ b k).castLE hk) : Fin 200) :=
    fun b k => (hi b k).trans (topIdx_apply s b (σ b k))
  show pooled (picked (feats seq (posRows pos)) (wrapped (sorted (topIdx s)))) We be W2 b2 (ix2 b o) = _
  rw [pooled_apply]
  simp only [picked_apply _ _ _ hp, hidden_eq]
  rw [Algebra.mean_layer _ (fun _ _ => hidden_nonneg _ _ _ _ _)]
  have hsum : ∀ h : Fin 512, (∑ k : Fin 50, Spec.hidden (fun d => seq (ix3 b (sortedFrom (before s b) ((σ b k).castLE hk)) d))
        (fun d => pos (ix2 ⟨sortedFrom (before s b) ((σ b k).castLE hk), by omega⟩ d)) We be h)
      = ∑ l : Fin 200, if rank (keys (fun l d => seq (ix3 b l d)) (fun l d => pos (ix2 ⟨l, by omega⟩ d))
          (fun l => mask (ix2 b l)) W1 b1 w) l < 50
        then Spec.hidden (fun d => seq (ix3 b l d)) (fun d => pos (ix2 ⟨l, by omega⟩ d)) We be h else 0 := fun h => by
    rw [← hs b, ← sum_sortedFrom _ _ (before_iff s b) hk
      (fun l => Spec.hidden (fun d => seq (ix3 b l d)) (fun d => pos (ix2 ⟨l, by omega⟩ d)) We be h)]
    exact (hσ b).sum_comp (fun k : Fin 50 => Spec.hidden (fun d => seq (ix3 b (sortedFrom (before s b) (k.castLE hk)) d))
        (fun d => pos (ix2 ⟨sortedFrom (before s b) (k.castLE hk), by omega⟩ d)) We be h)
  simp only [hsum]
  rfl

end Cert.RefValue

end
-- ==== Proof.Value.lean ====
/-
  The value claim: with the scorer's second bias zero, the idealized kernel and the idealized reference end with the same
  result.
-/
module

public import proofs.«01_k».proof.Proof.KernelRun
public import proofs.«01_k».proof.Proof.RefValue
public import proofs.«01_k».proof.Proof.Frames

@[expose] public section

set_option maxRecDepth 16384

noncomputable section

namespace Cert.Value

open Idealize.ShloMosaic Idealize.ShloMosaic.TcCoe Idealize.SL.Sem

/-- If a conjunction of bits over a list is set, every bit of the list is. -/
theorem foldl_andi {ι : Type} (f : ι → BitVec 1) (l : List ι) : ∀ v : BitVec 1,
    l.foldl (fun r n => IntOp.andi r (f n)) v = 1#1 → v = 1#1 ∧ ∀ n ∈ l, f n = 1#1 := by
  have hand : ∀ a b : BitVec 1, IntOp.andi a b = 1#1 → a = 1#1 ∧ b = 1#1 := by decide
  induction l with
  | nil => exact fun v h => ⟨h, fun n hn => absurd hn List.not_mem_nil⟩
  | cons a l ih =>
    intro v h
    obtain ⟨h1, h2⟩ := ih _ h
    obtain ⟨h3, h4⟩ := hand _ _ h1
    exact ⟨h3, List.forall_mem_cons.2 ⟨h4, h2⟩⟩

/-- What the precondition says: the scorer's second bias is zero. -/
theorem bias_eq_zero (m : (ℓ : Loc Cert.KernelIdeal.nD Cert.KernelIdeal.τ Cert.KernelIdeal.sig) → Buf (Elt Ideal) ℓ)
    (h : @Cert.Pre_KernelIdeal_zero_score_bias Cert.Frames.preFacts m) (c : Dev Cert.KernelIdeal.nD) :
    m ((c.tc : Thread Cert.KernelIdeal.nD Cert.KernelIdeal.τ).loc Cert.KernelIdeal.main_arg6) (ix1 0) = (0 : EReal) := by
  have h0 := h c
  unfold Cert.Pre_zero_score_bias.fn at h0
  dsimp only at h0
  have h1 := congrFun h0 (fun a => a.elim0)
  unfold Host.reduce at h1
  have h2 := (foldl_andi _ _ _ h1).2 (Shape.rowMajor _ (ix1 0)) (List.mem_filter.2 ⟨List.mem_finRange _, decide_eq_true (funext fun a => a.elim0)⟩)
  rw [Equiv.symm_apply_apply] at h2
  generalize m (Thread.loc _ _) = x at h2 ⊢
  pointwise at h2
  exact of_decide_eq_true ((StableHlo.Predicate.ofBool_eq_one_iff _).1 h2)

/-- The value claim. -/
theorem algebraic : @Cert.algebraic_KernelIdeal_ReferenceIdeal_pre_zero_score_bias Cert.KernelIdeal.Gen.facts
    Cert.ReferenceIdeal.Gen.facts Cert.Frames.preFacts := by
  intro m g m' g' hpre hargs
  refine ⟨fun c => Cert.KernelRun.res m c, Cert.KernelRun.run m g, ?_⟩
  refine (θ_run Cert.ReferenceIdeal.defs _ _).mono (fun r h c => ⟨(h c).1.trans ?_, (h c).2⟩)
    (Cert.ReferenceIdeal.Value.run (F := Ideal) m' g')
  refine (Cert.RefStages.res_eq m' c).trans ?_
  obtain ⟨h0, h1, h2, h3, h4, h5, h6, h7, h8, h9, h10⟩ := hargs c
  rw [h0, h1, h2, h3, h4, h5, h6, h7, h8, h9, h10]
  exact Cert.RefValue.whole_eq _ _ _ _ _ _ _ _ _ _ _ (bias_eq_zero m hpre c)

end Cert.Value

end
-- ==== Proof.lean ====
/-
  The certificate: the claims about the runs, the named constant, and the value claim, put together.
-/
module

public import proofs.«01_k».proof.Defs
public import proofs.«01_k».proof.Proof.Frames
public import proofs.«01_k».proof.Proof.Value

@[expose] public section

noncomputable section

namespace Cert.Proof

/-- Every claim of the certificate holds. -/
theorem claim : Cert.Claim :=
  ⟨Cert.Kernel.Gen.facts, Cert.KernelIdeal.Gen.facts, Cert.ReferenceIdeal.Gen.facts, Cert.Frames.preFacts,
    Cert.Frames.kernel, Cert.Frames.kernelIdeal, Cert.Frames.kernelIdeal_pre, Cert.Frames.referenceIdeal,
    Cert.Frames.referenceIdeal_pre, Cert.Frames.preserves, Cert.Value.algebraic⟩

end Cert.Proof

end
